-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S9 : Shape := ⟨1, ![9]⟩
abbrev S_ : Shape := ⟨0, ![]⟩
abbrev S1 : Shape := ⟨1, ![1]⟩
abbrev S32x512 : Shape := ⟨2, ![32, 512]⟩
abbrev S88x512 : Shape := ⟨2, ![88, 512]⟩
abbrev S80x512 : Shape := ⟨2, ![80, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .f32⟩
  | .local _ .vmem, ⟨0, _⟩ => ⟨S1024x512, .f32⟩
  | .local _ .vmem, ⟨1, _⟩ => ⟨S2048x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_8 : BitVec 32 := 2#32
  let v15 : BitVec 32 := Scalar.muli v9 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_34 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v31 : BitVec 32 := Scalar.muli v5 c1024_i32
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32 : BitVec 32 := 256#32
  let v36 : BitVec 32 := Scalar.muli v35 c256_i32
  let v51 : BitVec 32 := Scalar.addi v31 v36
  let v52 : BitVec 32 := Scalar.addi v51 c0_i32_34
  let c0_i32_41 : BitVec 32 := 0#32
  ![v52.toNat, 0]
def k0_off2 (d0 : Dev nD) (c0_i32_33 : BitVec 32) : Fin 2 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32 : BitVec 32 := 256#32
  let v36 : BitVec 32 := Scalar.muli v35 c256_i32
  let v50 : BitVec 32 := Scalar.addi v36 c0_i32_33
  let c0_i32_42 : BitVec 32 := 0#32
  ![v50.toNat, 0]
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v53 : BitVec 32 := Scalar.muli v2 c4_i32_37
  let v54 : BitVec 32 := Scalar.addi c0_i32_38 v53
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_39 : BitVec 32 := 2#32
  let v55 : BitVec 32 := Scalar.muli v9 c2_i32_39
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v57 : BitVec 32 := Scalar.muli v8 c1_i32_40
  let v58 : BitVec 32 := Scalar.addi v56 v57
  v58.toNat
def k0_dev5 (d0 : Dev nD) : Nat :=
  let c0_i32_47 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_46 : BitVec 32 := 4#32
  let v68 : BitVec 32 := Scalar.muli v2 c4_i32_46
  let v69 : BitVec 32 := Scalar.addi c0_i32_47 v68
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_48 : BitVec 32 := 2#32
  let v70 : BitVec 32 := Scalar.muli v9 c2_i32_48
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_49 : BitVec 32 := 1#32
  let v72 : BitVec 32 := Scalar.muli v8 c1_i32_49
  let v73 : BitVec 32 := Scalar.addi v71 v72
  v73.toNat
def k0_dev6 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v83 : BitVec 32 := Scalar.muli v2 c4_i32_55
  let v84 : BitVec 32 := Scalar.addi c0_i32_56 v83
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_57 : BitVec 32 := 2#32
  let v85 : BitVec 32 := Scalar.muli v9 c2_i32_57
  let v86 : BitVec 32 := Scalar.addi v84 v85
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v87 : BitVec 32 := Scalar.muli v8 c1_i32_58
  let v88 : BitVec 32 := Scalar.addi v86 v87
  v88.toNat
def k0_dev7 (d0 : Dev nD) : Nat :=
  let c0_i32_65 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_64 : BitVec 32 := 4#32
  let v98 : BitVec 32 := Scalar.muli v2 c4_i32_64
  let v99 : BitVec 32 := Scalar.addi c0_i32_65 v98
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_66 : BitVec 32 := 2#32
  let v100 : BitVec 32 := Scalar.muli v9 c2_i32_66
  let v101 : BitVec 32 := Scalar.addi v99 v100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_67 : BitVec 32 := 1#32
  let v102 : BitVec 32 := Scalar.muli v8 c1_i32_67
  let v103 : BitVec 32 := Scalar.addi v101 v102
  v103.toNat
def k0_dev8 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v113 : BitVec 32 := Scalar.muli v2 c4_i32_73
  let v114 : BitVec 32 := Scalar.addi c0_i32_74 v113
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_75 : BitVec 32 := 2#32
  let v115 : BitVec 32 := Scalar.muli v9 c2_i32_75
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v117 : BitVec 32 := Scalar.muli v8 c1_i32_76
  let v118 : BitVec 32 := Scalar.addi v116 v117
  v118.toNat
def k0_dev9 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v128 : BitVec 32 := Scalar.muli v2 c4_i32_81
  let v129 : BitVec 32 := Scalar.addi c0_i32_82 v128
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_83 : BitVec 32 := 2#32
  let v130 : BitVec 32 := Scalar.muli v9 c2_i32_83
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v132 : BitVec 32 := Scalar.muli v8 c1_i32_84
  let v133 : BitVec 32 := Scalar.addi v131 v132
  v133.toNat
def k0_dev10 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v143 : BitVec 32 := Scalar.muli v2 c4_i32_89
  let v144 : BitVec 32 := Scalar.addi c0_i32_90 v143
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_91 : BitVec 32 := 2#32
  let v145 : BitVec 32 := Scalar.muli v9 c2_i32_91
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v147 : BitVec 32 := Scalar.muli v8 c1_i32_92
  let v148 : BitVec 32 := Scalar.addi v146 v147
  v148.toNat
def k0_dev11 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v158 : BitVec 32 := Scalar.muli v2 c4_i32_97
  let v159 : BitVec 32 := Scalar.addi c0_i32_98 v158
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_99 : BitVec 32 := 2#32
  let v160 : BitVec 32 := Scalar.muli v9 c2_i32_99
  let v161 : BitVec 32 := Scalar.addi v159 v160
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v162 : BitVec 32 := Scalar.muli v8 c1_i32_100
  let v163 : BitVec 32 := Scalar.addi v161 v162
  v163.toNat
def k0_off3 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v31 : BitVec 32 := Scalar.muli v5 c1024_i32
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v46 : BitVec 32 := Scalar.muli c2_i32_30 v45
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_31 v8
  let v48 : BitVec 32 := Scalar.addi v46 v47
  let c256_i32_32 : BitVec 32 := 256#32
  let v49 : BitVec 32 := Scalar.muli v48 c256_i32_32
  let v170 : BitVec 32 := Scalar.addi v31 v49
  let c0_i32_108 : BitVec 32 := 0#32
  ![v170.toNat, 0]
def k0_off4 (d0 : Dev nD) : Fin 2 → Nat :=
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v46 : BitVec 32 := Scalar.muli c2_i32_30 v45
  let c1_i32_31 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v47 : BitVec 32 := Scalar.subi c1_i32_31 v8
  let v48 : BitVec 32 := Scalar.addi v46 v47
  let c256_i32_32 : BitVec 32 := 256#32
  let v49 : BitVec 32 := Scalar.muli v48 c256_i32_32
  let c0_i32_109 : BitVec 32 := 0#32
  ![v49.toNat, 0]
def k0_dev12 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v171 : BitVec 32 := Scalar.muli v2 c4_i32_104
  let v172 : BitVec 32 := Scalar.addi c0_i32_105 v171
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_106 : BitVec 32 := 2#32
  let v173 : BitVec 32 := Scalar.muli v9 c2_i32_106
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v175 : BitVec 32 := Scalar.muli v8 c1_i32_107
  let v176 : BitVec 32 := Scalar.addi v174 v175
  v176.toNat
def k0_off5 (d0 : Dev nD) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v31 : BitVec 32 := Scalar.muli v5 c1024_i32
  let c0_i32_110 : BitVec 32 := 0#32
  ![v31.toNat, 0]
def k0_off6 (d0 : Dev nD) (c0_i32_119 : BitVec 32) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c1024_i32_21 : BitVec 32 := 1024#32
  let v33 : BitVec 32 := Scalar.muli v32 c1024_i32_21
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v34 v8
  let c256_i32 : BitVec 32 := 256#32
  let v36 : BitVec 32 := Scalar.muli v35 c256_i32
  let v194 : BitVec 32 := Scalar.addi v33 v36
  let v195 : BitVec 32 := Scalar.addi v194 c0_i32_119
  let c0_i32_126 : BitVec 32 := 0#32
  ![v195.toNat, 0]
def k0_dev13 (d0 : Dev nD) : Nat :=
  let c0_i32_123 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_122 : BitVec 32 := 4#32
  let v196 : BitVec 32 := Scalar.muli v10 c4_i32_122
  let v197 : BitVec 32 := Scalar.addi c0_i32_123 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v198 : BitVec 32 := Scalar.muli v5 c2_i32_124
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_125 : BitVec 32 := 1#32
  let v200 : BitVec 32 := Scalar.muli v8 c1_i32_125
  let v201 : BitVec 32 := Scalar.addi v199 v200
  v201.toNat
def k0_dev14 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v208 : BitVec 32 := Scalar.muli v2 c4_i32_130
  let v209 : BitVec 32 := Scalar.addi c0_i32_131 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v210 : BitVec 32 := Scalar.muli v5 c2_i32_132
  let v211 : BitVec 32 := Scalar.addi v209 v210
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_133 : BitVec 32 := 1#32
  let v212 : BitVec 32 := Scalar.muli v11 c1_i32_133
  let v213 : BitVec 32 := Scalar.addi v211 v212
  v213.toNat
def k0_dev15 (d0 : Dev nD) : Nat :=
  let c0_i32_148 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_147 : BitVec 32 := 4#32
  let v232 : BitVec 32 := Scalar.muli v10 c4_i32_147
  let v233 : BitVec 32 := Scalar.addi c0_i32_148 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v234 : BitVec 32 := Scalar.muli v5 c2_i32_149
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_150 : BitVec 32 := 1#32
  let v236 : BitVec 32 := Scalar.muli v8 c1_i32_150
  let v237 : BitVec 32 := Scalar.addi v235 v236
  v237.toNat
def k0_dev16 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v244 : BitVec 32 := Scalar.muli v2 c4_i32_155
  let v245 : BitVec 32 := Scalar.addi c0_i32_156 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v246 : BitVec 32 := Scalar.muli v5 c2_i32_157
  let v247 : BitVec 32 := Scalar.addi v245 v246
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_158 : BitVec 32 := 1#32
  let v248 : BitVec 32 := Scalar.muli v11 c1_i32_158
  let v249 : BitVec 32 := Scalar.addi v247 v248
  v249.toNat
def k0_dev17 (d0 : Dev nD) : Nat :=
  let c0_i32_173 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_172 : BitVec 32 := 4#32
  let v268 : BitVec 32 := Scalar.muli v10 c4_i32_172
  let v269 : BitVec 32 := Scalar.addi c0_i32_173 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v270 : BitVec 32 := Scalar.muli v5 c2_i32_174
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_175 : BitVec 32 := 1#32
  let v272 : BitVec 32 := Scalar.muli v8 c1_i32_175
  let v273 : BitVec 32 := Scalar.addi v271 v272
  v273.toNat
def k0_dev18 (d0 : Dev nD) : Nat :=
  let c0_i32_181 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_180 : BitVec 32 := 4#32
  let v280 : BitVec 32 := Scalar.muli v2 c4_i32_180
  let v281 : BitVec 32 := Scalar.addi c0_i32_181 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_182 : BitVec 32 := 2#32
  let v282 : BitVec 32 := Scalar.muli v5 c2_i32_182
  let v283 : BitVec 32 := Scalar.addi v281 v282
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_183 : BitVec 32 := 1#32
  let v284 : BitVec 32 := Scalar.muli v11 c1_i32_183
  let v285 : BitVec 32 := Scalar.addi v283 v284
  v285.toNat
def k0_dev19 (d0 : Dev nD) : Nat :=
  let c0_i32_198 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_197 : BitVec 32 := 4#32
  let v304 : BitVec 32 := Scalar.muli v10 c4_i32_197
  let v305 : BitVec 32 := Scalar.addi c0_i32_198 v304
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_199 : BitVec 32 := 2#32
  let v306 : BitVec 32 := Scalar.muli v5 c2_i32_199
  let v307 : BitVec 32 := Scalar.addi v305 v306
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v308 : BitVec 32 := Scalar.muli v8 c1_i32_200
  let v309 : BitVec 32 := Scalar.addi v307 v308
  v309.toNat
def k0_dev20 (d0 : Dev nD) : Nat :=
  let c0_i32_206 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_205 : BitVec 32 := 4#32
  let v316 : BitVec 32 := Scalar.muli v2 c4_i32_205
  let v317 : BitVec 32 := Scalar.addi c0_i32_206 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_207 : BitVec 32 := 2#32
  let v318 : BitVec 32 := Scalar.muli v5 c2_i32_207
  let v319 : BitVec 32 := Scalar.addi v317 v318
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_208 : BitVec 32 := 1#32
  let v320 : BitVec 32 := Scalar.muli v11 c1_i32_208
  let v321 : BitVec 32 := Scalar.addi v319 v320
  v321.toNat
def k0_dev21 (d0 : Dev nD) : Nat :=
  let c0_i32_223 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_222 : BitVec 32 := 4#32
  let v340 : BitVec 32 := Scalar.muli v10 c4_i32_222
  let v341 : BitVec 32 := Scalar.addi c0_i32_223 v340
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_224 : BitVec 32 := 2#32
  let v342 : BitVec 32 := Scalar.muli v5 c2_i32_224
  let v343 : BitVec 32 := Scalar.addi v341 v342
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_225 : BitVec 32 := 1#32
  let v344 : BitVec 32 := Scalar.muli v8 c1_i32_225
  let v345 : BitVec 32 := Scalar.addi v343 v344
  v345.toNat
def k0_dev22 (d0 : Dev nD) : Nat :=
  let c0_i32_231 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_230 : BitVec 32 := 4#32
  let v352 : BitVec 32 := Scalar.muli v2 c4_i32_230
  let v353 : BitVec 32 := Scalar.addi c0_i32_231 v352
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_232 : BitVec 32 := 2#32
  let v354 : BitVec 32 := Scalar.muli v5 c2_i32_232
  let v355 : BitVec 32 := Scalar.addi v353 v354
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_233 : BitVec 32 := 1#32
  let v356 : BitVec 32 := Scalar.muli v11 c1_i32_233
  let v357 : BitVec 32 := Scalar.addi v355 v356
  v357.toNat
def k0_dev23 (d0 : Dev nD) : Nat :=
  let c0_i32_248 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_247 : BitVec 32 := 4#32
  let v376 : BitVec 32 := Scalar.muli v10 c4_i32_247
  let v377 : BitVec 32 := Scalar.addi c0_i32_248 v376
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_249 : BitVec 32 := 2#32
  let v378 : BitVec 32 := Scalar.muli v5 c2_i32_249
  let v379 : BitVec 32 := Scalar.addi v377 v378
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_250 : BitVec 32 := 1#32
  let v380 : BitVec 32 := Scalar.muli v8 c1_i32_250
  let v381 : BitVec 32 := Scalar.addi v379 v380
  v381.toNat
def k0_dev24 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v388 : BitVec 32 := Scalar.muli v2 c4_i32_255
  let v389 : BitVec 32 := Scalar.addi c0_i32_256 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_257 : BitVec 32 := 2#32
  let v390 : BitVec 32 := Scalar.muli v5 c2_i32_257
  let v391 : BitVec 32 := Scalar.addi v389 v390
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_258 : BitVec 32 := 1#32
  let v392 : BitVec 32 := Scalar.muli v11 c1_i32_258
  let v393 : BitVec 32 := Scalar.addi v391 v392
  v393.toNat
def k0_dev25 (d0 : Dev nD) : Nat :=
  let c0_i32_273 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_272 : BitVec 32 := 4#32
  let v412 : BitVec 32 := Scalar.muli v10 c4_i32_272
  let v413 : BitVec 32 := Scalar.addi c0_i32_273 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_274 : BitVec 32 := 2#32
  let v414 : BitVec 32 := Scalar.muli v5 c2_i32_274
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_275 : BitVec 32 := 1#32
  let v416 : BitVec 32 := Scalar.muli v8 c1_i32_275
  let v417 : BitVec 32 := Scalar.addi v415 v416
  v417.toNat
def k0_dev26 (d0 : Dev nD) : Nat :=
  let c0_i32_281 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_280 : BitVec 32 := 4#32
  let v424 : BitVec 32 := Scalar.muli v2 c4_i32_280
  let v425 : BitVec 32 := Scalar.addi c0_i32_281 v424
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_282 : BitVec 32 := 2#32
  let v426 : BitVec 32 := Scalar.muli v5 c2_i32_282
  let v427 : BitVec 32 := Scalar.addi v425 v426
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_283 : BitVec 32 := 1#32
  let v428 : BitVec 32 := Scalar.muli v11 c1_i32_283
  let v429 : BitVec 32 := Scalar.addi v427 v428
  v429.toNat
def k0_dev27 (d0 : Dev nD) : Nat :=
  let c0_i32_298 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_297 : BitVec 32 := 4#32
  let v448 : BitVec 32 := Scalar.muli v10 c4_i32_297
  let v449 : BitVec 32 := Scalar.addi c0_i32_298 v448
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_299 : BitVec 32 := 2#32
  let v450 : BitVec 32 := Scalar.muli v5 c2_i32_299
  let v451 : BitVec 32 := Scalar.addi v449 v450
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_300 : BitVec 32 := 1#32
  let v452 : BitVec 32 := Scalar.muli v8 c1_i32_300
  let v453 : BitVec 32 := Scalar.addi v451 v452
  v453.toNat
def k0_dev28 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v460 : BitVec 32 := Scalar.muli v2 c4_i32_305
  let v461 : BitVec 32 := Scalar.addi c0_i32_306 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v462 : BitVec 32 := Scalar.muli v5 c2_i32_307
  let v463 : BitVec 32 := Scalar.addi v461 v462
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_308 : BitVec 32 := 1#32
  let v464 : BitVec 32 := Scalar.muli v11 c1_i32_308
  let v465 : BitVec 32 := Scalar.addi v463 v464
  v465.toNat
def k0_off7 (d0 : Dev nD) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c1024_i32_21 : BitVec 32 := 1024#32
  let v33 : BitVec 32 := Scalar.muli v32 c1024_i32_21
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v42 : BitVec 32 := Scalar.subi c1_i32_27 v8
  let v43 : BitVec 32 := Scalar.addi v41 v42
  let c256_i32_28 : BitVec 32 := 256#32
  let v44 : BitVec 32 := Scalar.muli v43 c256_i32_28
  let v514 : BitVec 32 := Scalar.addi v33 v44
  let c88_i32_343 : BitVec 32 := 88#32
  let v515 : BitVec 32 := Scalar.addi v514 c88_i32_343
  let c0_i32_350 : BitVec 32 := 0#32
  ![v515.toNat, 0]
def k0_dev29 (d0 : Dev nD) : Nat :=
  let c0_i32_347 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_346 : BitVec 32 := 4#32
  let v516 : BitVec 32 := Scalar.muli v10 c4_i32_346
  let v517 : BitVec 32 := Scalar.addi c0_i32_347 v516
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_348 : BitVec 32 := 2#32
  let v518 : BitVec 32 := Scalar.muli v5 c2_i32_348
  let v519 : BitVec 32 := Scalar.addi v517 v518
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_349 : BitVec 32 := 1#32
  let v520 : BitVec 32 := Scalar.muli v8 c1_i32_349
  let v521 : BitVec 32 := Scalar.addi v519 v520
  v521.toNat
def k0_off8 (d0 : Dev nD) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_20 v5
  let c1024_i32_21 : BitVec 32 := 1024#32
  let v33 : BitVec 32 := Scalar.muli v32 c1024_i32_21
  let c2_i32_24 : BitVec 32 := 2#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_23 v2
  let v38 : BitVec 32 := Scalar.muli c2_i32_24 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.addi v38 v8
  let c256_i32_25 : BitVec 32 := 256#32
  let v40 : BitVec 32 := Scalar.muli v39 c256_i32_25
  let v561 : BitVec 32 := Scalar.addi v33 v40
  let c88_i32_378 : BitVec 32 := 88#32
  let v562 : BitVec 32 := Scalar.addi v561 c88_i32_378
  let c88_i32_379 : BitVec 32 := 88#32
  let v563 : BitVec 32 := Scalar.addi v562 c88_i32_379
  let c0_i32_386 : BitVec 32 := 0#32
  ![v563.toNat, 0]
def k0_dev30 (d0 : Dev nD) : Nat :=
  let c0_i32_383 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_382 : BitVec 32 := 4#32
  let v564 : BitVec 32 := Scalar.muli v2 c4_i32_382
  let v565 : BitVec 32 := Scalar.addi c0_i32_383 v564
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_384 : BitVec 32 := 2#32
  let v566 : BitVec 32 := Scalar.muli v5 c2_i32_384
  let v567 : BitVec 32 := Scalar.addi v565 v566
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_385 : BitVec 32 := 1#32
  let v568 : BitVec 32 := Scalar.muli v11 c1_i32_385
  let v569 : BitVec 32 := Scalar.addi v567 v568
  v569.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geo.lean ====
/-
The geometry of the all-gather on the 2×2×2 mesh: a device's three neighbours, the bands of rows in which the gathered
array is filled, which device's block each band comes from, and what a copy of a band leaves in the buffer it lands in.

A transfer is named by its direction `a` (0: along `y`, 1: along `x`, 2: along `z`) and its index `j` (0 to 7: a chunk of 32
rows, 8: the piece of the diagonal quadrant).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Neighbours -/

theorem dev_lt (c : Dev nD) : c.val < 8 := c.isLt

set_option backward.proofsInPublic true in
/-- The neighbour along `y`. -/
def ny (c : Dev nD) : Dev nD := ⟨(4 * (c.val / 4) + (c.val % 2) + 2) - 2 * ((c.val / 2) % 2), by have := dev_lt c; show _ < 8; omega⟩
set_option backward.proofsInPublic true in
/-- The neighbour along `x`. -/
def nx (c : Dev nD) : Dev nD := ⟨(2 * ((c.val / 2) % 2) + (c.val % 2) + 4) - 4 * (c.val / 4), by have := dev_lt c; show _ < 8; omega⟩
set_option backward.proofsInPublic true in
/-- The neighbour along `z`. -/
def nz (c : Dev nD) : Dev nD := ⟨(4 * (c.val / 4) + 2 * ((c.val / 2) % 2) + 1) - (c.val % 2), by have := dev_lt c; show _ < 8; omega⟩

/-- The neighbour in direction `a`. -/
def nb (a : Fin 3) (c : Dev nD) : Dev nD := match a with | 0 => ny c | 1 => nx c | 2 => nz c

theorem nb_nb (a : Fin 3) (c : Dev nD) : nb a (nb a c) = c := by
  have h := dev_lt c
  apply Fin.ext
  fin_cases a <;> simp only [nb, ny, nx, nz] <;> omega

/-- A direction's neighbours, as a permutation of the devices. -/
def nbE (a : Fin 3) : Dev nD ≃ Dev nD := ⟨nb a, nb a, nb_nb a, nb_nb a⟩

/-! ## Bands of rows -/

/-- Rows `[a, a + n)` of a two-dimensional array. -/
def rows (d : Fin 2 → ℕ) (a n : ℕ) : Finset (⟨2, d⟩ : Shape).Idx :=
  Finset.univ.filter fun i => a ≤ (i (0 : Fin 2)).val ∧ (i (0 : Fin 2)).val < a + n

theorem mem_rows {d : Fin 2 → ℕ} {a n : ℕ} {i : (⟨2, d⟩ : Shape).Idx} :
    i ∈ rows d a n ↔ a ≤ (i (0 : Fin 2)).val ∧ (i (0 : Fin 2)).val < a + n := by
  unfold rows; rw [Finset.mem_filter]; exact ⟨fun h => h.2, fun h => ⟨Finset.mem_univ _, h⟩⟩

theorem rows_add (d : Fin 2 → ℕ) (a n k : ℕ) : rows d a (n + k) = rows d a n ∪ rows d (a + n) k := by
  ext i; rw [Finset.mem_union, mem_rows, mem_rows, mem_rows]; omega

theorem rows_disjoint (d : Fin 2 → ℕ) (a n k : ℕ) : Disjoint (rows d a n) (rows d (a + n) k) := by
  rw [Finset.disjoint_left]; intro i h h'; rw [mem_rows] at h h'; omega

theorem rows_all (d : Fin 2 → ℕ) (n : ℕ) (h : d 0 ≤ n) : rows d 0 n = Finset.univ := by
  ext i; rw [mem_rows]
  have hi : (i (0 : Fin 2)).val < d 0 := (i (0 : Fin 2)).isLt
  exact ⟨fun _ => Finset.mem_univ _, fun _ => by omega⟩

/-- A rectangle of whole rows is a band. -/
theorem rect_rows (d : Fin 2 → ℕ) (a n : ℕ) (off : Fin 2 → ℕ) (hoff : off = ![a, 0])
    (inb : ∀ x, off x + ![n, d 1] x ≤ (⟨2, d⟩ : Shape).size x) :
    (Rect.unit (s := ⟨2, d⟩) off ![n, d 1] inb).set = rows d a n := by
  subst hoff
  ext i; rw [mem_rows, Rect.mem_set_unit]
  have hi : (i (1 : Fin 2)).val < d 1 := (i (1 : Fin 2)).isLt
  constructor
  · intro h; exact h 0
  · intro h x
    fin_cases x
    · exact h
    · exact ⟨Nat.zero_le _, lt_of_lt_of_eq hi (Nat.zero_add _).symm⟩

/-- The memrefs the copies name: `n` rows of the input block and of the gathered array. -/
abbrev xM (n : ℕ) (off : Fin 2 → ℕ) (inb : ∀ a, off a + (⟨2, ![n, 512]⟩ : Shape).size a ≤ S1024x512.size a) : Memref sig .tc .vmem ⟨2, ![n, 512]⟩ .f32 :=
  (Memref.whole cc0_stg0_0).slice (Rect.unit (s := S1024x512) off (⟨2, ![n, 512]⟩ : Shape).size inb) (fun _ => rfl)
abbrev oM (n : ℕ) (off : Fin 2 → ℕ) (inb : ∀ a, off a + (⟨2, ![n, 512]⟩ : Shape).size a ≤ S2048x512.size a) : Memref sig .tc .vmem ⟨2, ![n, 512]⟩ .f32 :=
  (Memref.whole cc0_stg1_0).slice (Rect.unit (s := S2048x512) off (⟨2, ![n, 512]⟩ : Shape).size inb) (fun _ => rfl)

abbrev xRows (a n : ℕ) : Finset S1024x512.Idx := rows ![1024, 512] a n
abbrev oRows (a n : ℕ) : Finset S2048x512.Idx := rows ![2048, 512] a n

theorem xM_set (n a : ℕ) (off : Fin 2 → ℕ) (hoff : off = ![a, 0]) (inb) : (xM n off inb).view.set = xRows a n :=
  (View.set_slice_whole _ _).trans (rect_rows ![1024, 512] a n off hoff inb)
theorem oM_set (n a : ℕ) (off : Fin 2 → ℕ) (hoff : off = ![a, 0]) (inb) : (oM n off inb).view.set = oRows a n :=
  (View.set_slice_whole _ _).trans (rect_rows ![2048, 512] a n off hoff inb)

/-! ## Where each band lies and where it comes from -/

/-- The first row of a device's own half of the gathered array, and of its other half. -/
def own (c : Dev nD) : ℕ := 1024 * ((c.val / 2) % 2)
def mis (c : Dev nD) : ℕ := 1024 - 1024 * ((c.val / 2) % 2)
/-- The first row, within a half, of the device's own quadrant. -/
def qm (c : Dev nD) : ℕ := 512 * (c.val / 4) + 256 * (c.val % 2)

/-- The first row of the quadrant that direction `a` fills at device `c`. -/
def qd (a : Fin 3) (c : Dev nD) : ℕ := match a with
  | 0 => 512 * (c.val / 4) + 256 * (c.val % 2)
  | 1 => 512 - 512 * (c.val / 4) + 256 * (c.val % 2)
  | 2 => 512 * (c.val / 4) + (256 - 256 * (c.val % 2))

/-- The first row of the band transfer `(a, j)` fills at device `c`. -/
def lo (c : Dev nD) (a : Fin 3) (j : Fin 9) : ℕ :=
  if j.val < 8 then mis c + qd a c + 32 * j.val else mis c + (768 - qm c) + 88 * a.val

/-- How many rows it has. -/
def len (a : Fin 3) (j : Fin 9) : ℕ := if j.val < 8 then 32 else if a.val = 2 then 80 else 88

set_option backward.proofsInPublic true in
/-- Row `r` of the gathered array at device `c` is copied from this device's block. -/
def srcD (c : Dev nD) (r : ℕ) : Dev nD :=
  if h : r < 2048 then
    if r / 1024 = (c.val / 2) % 2 then c
    else if (r % 1024) / 512 ≠ c.val / 4 ∧ (r % 512) / 256 ≠ c.val % 2 ∧ r % 256 < 88 then ny c
    else ⟨4 * ((r % 1024) / 512) + 2 * (1 - (c.val / 2) % 2) + (r % 512) / 256, by show _ < 8; omega⟩
  else c

/-- The other half, outside the diagonal piece: a device whose quadrant the row lies in. -/
theorem srcD_plain (c : Dev nD) (r : ℕ) (h : r < 2048) (h1 : r / 1024 ≠ (c.val / 2) % 2)
    (h2 : ¬ ((r % 1024) / 512 ≠ c.val / 4 ∧ (r % 512) / 256 ≠ c.val % 2 ∧ r % 256 < 88)) :
    (srcD c r).val = 4 * ((r % 1024) / 512) + 2 * (1 - (c.val / 2) % 2) + (r % 512) / 256 := by
  unfold srcD; rw [dif_pos h, if_neg h1, if_neg h2]

/-- The diagonal piece. -/
theorem srcD_diag (c : Dev nD) (r : ℕ) (h : r < 2048) (h1 : r / 1024 ≠ (c.val / 2) % 2)
    (h2 : (r % 1024) / 512 ≠ c.val / 4 ∧ (r % 512) / 256 ≠ c.val % 2 ∧ r % 256 < 88) : srcD c r = ny c := by
  unfold srcD; rw [dif_pos h, if_neg h1, if_pos h2]

theorem srcD_own (c : Dev nD) (r : ℕ) (h : own c ≤ r ∧ r < own c + 1024) : srcD c r = c := by
  have hc := dev_lt c
  unfold own at h
  unfold srcD; rw [dif_pos (by omega), if_pos (by omega)]

theorem ny_val (c : Dev nD) : (ny c).val = (4 * (c.val / 4) + (c.val % 2) + 2) - 2 * ((c.val / 2) % 2) := rfl
theorem nx_val (c : Dev nD) : (nx c).val = (2 * ((c.val / 2) % 2) + (c.val % 2) + 4) - 4 * (c.val / 4) := rfl
theorem nz_val (c : Dev nD) : (nz c).val = (4 * (c.val / 4) + 2 * ((c.val / 2) % 2) + 1) - (c.val % 2) := rfl

/-- Each row comes from a device holding the block the row belongs to. -/
theorem srcD_y (c : Dev nD) (r : ℕ) (h : r < 2048) : (srcD c r).val / 2 % 2 = r / 1024 := by
  have hc := dev_lt c
  by_cases h1 : r / 1024 = (c.val / 2) % 2
  · rw [srcD_own c r (by unfold own; omega)]; exact h1.symm
  · by_cases h2 : (r % 1024) / 512 ≠ c.val / 4 ∧ (r % 512) / 256 ≠ c.val % 2 ∧ r % 256 < 88
    · rw [srcD_diag c r h h1 h2, ny_val]; omega
    · rw [srcD_plain c r h h1 h2]; omega

/-- What the neighbour along `y` sends to `c` is read off the sender's own block. -/
theorem srcD_y_send (c : Dev nD) (j : Fin 9) (r : ℕ) (h : lo c 0 j ≤ r ∧ r < lo c 0 j + len 0 j) : srcD c r = ny c := by
  have hc := dev_lt c
  have hy : c.val / 2 % 2 = 0 ∨ c.val / 2 % 2 = 1 := by omega
  by_cases hj : j.val < 8
  · simp only [lo, len, if_pos hj, mis, qd] at h
    rcases hy with hy | hy <;>
      (apply Fin.ext; rw [srcD_plain c r (by omega) (by omega) (by omega), ny_val]; omega)
  · simp only [lo, len, if_neg hj, mis, qm, Fin.val_zero, OfNat.zero_ne_ofNat, if_false] at h
    exact srcD_diag c r (by omega) (by omega) (by omega)

/-- What a neighbour along `x` or `z` forwards to `c` came to both of them from the same device. -/
theorem srcD_forward (c : Dev nD) (a : Fin 3) (ha : a ≠ 0) (j : Fin 9) (r : ℕ) (h : lo c a j ≤ r ∧ r < lo c a j + len a j) :
    srcD c r = srcD (nb a c) r := by
  have hc := dev_lt c
  have hx := nx_val c
  have hz := nz_val c
  have hy : c.val / 2 % 2 = 0 ∨ c.val / 2 % 2 = 1 := by omega
  apply Fin.ext
  by_cases hj : j.val < 8
  · simp only [lo, len, if_pos hj, mis] at h
    match a, ha, h with
    | 1, _, h =>
      simp only [qd] at h
      show _ = (srcD (nx c) r).val
      rw [srcD_plain c r (by omega) (by omega) (by omega), srcD_plain (nx c) r (by omega) (by omega) (by omega)]; omega
    | 2, _, h =>
      simp only [qd] at h
      show _ = (srcD (nz c) r).val
      rw [srcD_plain c r (by omega) (by omega) (by omega), srcD_plain (nz c) r (by omega) (by omega) (by omega)]; omega
  · simp only [lo, len, if_neg hj, mis, qm] at h
    match a, ha, h with
    | 1, _, h =>
      simp at h
      show _ = (srcD (nx c) r).val
      rw [srcD_plain c r (by omega) (by omega) (by omega), srcD_plain (nx c) r (by omega) (by omega) (by omega)]; omega
    | 2, _, h =>
      simp at h
      show _ = (srcD (nz c) r).val
      rw [srcD_plain c r (by omega) (by omega) (by omega), srcD_plain (nz c) r (by omega) (by omega) (by omega)]; omega

end Cert.GatherProof

end
-- ==== Proof.Contents.lean ====
/-
The contents: what the input block of a device holds, what the gathered array of a device ends with, and what a copy of
a band of rows leaves there.
-/
module

public import proofs.«01_k».proof.Proof.Geo

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev XBuf (F : FTy → Type) : Type := (cc0_stg0_0 : Ref sig .tc).ty.Contents (Elt F)
abbrev OBuf (F : FTy → Type) : Type := (cc0_stg1_0 : Ref sig .tc).ty.Contents (Elt F)

/-- Device `c`'s block of the input. -/
def xs (c : Dev nD) : XBuf F :=
  (win0_0.blk (0 : Fin 1)).view.read (Elt F) ((s₀ m ρ).mem ((c : Thread nD τ).loc main_arg0))

set_option backward.proofsInPublic true in
/-- The place, within a block, of a place of the gathered array. -/
def red (i : S2048x512.Idx) : S1024x512.Idx := fun a => match a with
  | 0 => ⟨(i (0 : Fin 2)).val % 1024, Nat.mod_lt _ (by decide)⟩
  | 1 => ⟨(i (1 : Fin 2)).val, (i (1 : Fin 2)).isLt⟩

/-- The gathered array as device `c` ends with it. -/
def fin (c : Dev nD) : OBuf F := fun i => xs m ρ (srcD c (i (0 : Fin 2)).val) (red i)

/-- A place of a band is a place of its memref. -/
theorem oM_emb (b n : ℕ) (inb) (i : S2048x512.Idx) (hi : i ∈ oRows b n) :
    ∃ x : (⟨2, ![n, 512]⟩ : Shape).Idx, (oM n ![b, 0] inb).view.emb x = i :=
  LoadRect.exists_idx_of_mem _ ((Finset.ext_iff.1 (rect_rows ![2048, 512] b n _ rfl inb) i).2 hi)

section Landing
variable {n : ℕ}

omit [FloatOps F] in
/-- A band of the input block at rows `a` copied over the band at rows `b` of the gathered array. -/
theorem write_x {a b : ℕ} {off off' : Fin 2 → ℕ} (hoff : off = ![b, 0]) (hoff' : off' = ![a, 0]) (inb inb')
    (fd : OBuf F) (fs : XBuf F) (i : S2048x512.Idx) (hi : i ∈ oRows b n) (j : S1024x512.Idx)
    (h0 : (j (0 : Fin 2)).val + b = (i (0 : Fin 2)).val + a) (h1 : (j (1 : Fin 2)).val = (i (1 : Fin 2)).val) :
    (oM n off inb).view.write (Elt F) fd ((xM n off' inb').view.read (Elt F) fs) Finset.univ i = fs j := by
  subst hoff hoff'
  obtain ⟨x, e⟩ := oM_emb b n inb i hi
  have ej : (xM n ![a, 0] inb').view.emb x = j := by
    have e0 : b + 1 * (x (0 : Fin 2)).val = (i (0 : Fin 2)).val := congrArg (fun k : S2048x512.Idx => (k (0 : Fin 2)).val) e
    have e1 : 0 + 1 * (x (1 : Fin 2)).val = (i (1 : Fin 2)).val := congrArg (fun k : S2048x512.Idx => (k (1 : Fin 2)).val) e
    funext y
    fin_cases y
    · apply Fin.ext; show a + 1 * (x (0 : Fin 2)).val = (j (0 : Fin 2)).val; omega
    · apply Fin.ext; show 0 + 1 * (x (1 : Fin 2)).val = (j (1 : Fin 2)).val; omega
  rw [← e, View.write_emb_of_mem _ _ (Finset.mem_univ x), View.read_apply, ej]
  rfl

omit [FloatOps F] in
/-- A band of one gathered array copied over the same band of another. -/
theorem write_o {b : ℕ} {off off' : Fin 2 → ℕ} (hoff : off = ![b, 0]) (hoff' : off' = ![b, 0]) (inb inb')
    (fd fs : OBuf F) (i : S2048x512.Idx) (hi : i ∈ oRows b n) :
    (oM n off inb).view.write (Elt F) fd ((oM n off' inb').view.read (Elt F) fs) Finset.univ i = fs i := by
  subst hoff hoff'
  obtain ⟨x, e⟩ := oM_emb b n inb i hi
  rw [← e, View.write_emb_of_mem _ _ (Finset.mem_univ x), View.read_apply]
  rfl

end Landing

/-- The rows within a half: `own p ≤ r` rows of the other half less the first row of the other half. -/
theorem lo_lt (c : Dev nD) (a : Fin 3) (j : Fin 9) : mis c ≤ lo c a j ∧ lo c a j + len a j ≤ mis c + 1024 := by
  have hc := dev_lt c
  have hj := j.isLt
  have ha := a.isLt
  unfold lo len
  by_cases h : j.val < 8
  · rw [if_pos h, if_pos h]; unfold qd; constructor
    · omega
    · match a with
      | 0 => dsimp only; omega
      | 1 => dsimp only; omega
      | 2 => dsimp only; omega
  · rw [if_neg h, if_neg h]; unfold qm; split <;> constructor <;> omega

/-- What the copy along `y` leaves in the receiver's array. -/
theorem land_y (c : Dev nD) (j : Fin 9) {off off' : Fin 2 → ℕ} (hoff : off = ![lo (ny c) 0 j, 0]) (hoff' : off' = ![lo (ny c) 0 j - own c, 0])
    {n : ℕ} (hn : n = len 0 j) (inb inb') (fd : OBuf F) (i : S2048x512.Idx) (hi : i ∈ oRows (lo (ny c) 0 j) n) :
    (oM n off inb).view.write (Elt F) fd ((xM n off' inb').view.read (Elt F) (xs m ρ c)) Finset.univ i = fin m ρ (ny c) i := by
  have hr := mem_rows.1 hi
  rw [hn] at hr
  have hl := lo_lt (ny c) 0 j
  have hm : mis (ny c) = own c := by have := dev_lt c; unfold mis own; rw [ny_val]; omega
  have ho : own c = 0 ∨ own c = 1024 := by unfold own; omega
  rw [write_x (a := lo (ny c) 0 j - own c) (b := lo (ny c) 0 j) hoff hoff' inb inb' fd (xs m ρ c) i hi (red i)
    (by show (i (0 : Fin 2)).val % 1024 + _ = _; rcases ho with h | h <;> omega) rfl]
  unfold fin
  rw [srcD_y_send (ny c) j _ hr]
  congr 1; exact (nb_nb 0 c).symm

/-- What the copies along `x` and `z` leave in the receiver's array. -/
theorem land_fwd (c : Dev nD) (a : Fin 3) (ha : a ≠ 0) (j : Fin 9) {off off' : Fin 2 → ℕ} (hoff : off = ![lo (nb a c) a j, 0])
    (hoff' : off' = ![lo (nb a c) a j, 0]) {n : ℕ} (hn : n = len a j) (inb inb') (fd : OBuf F) (i : S2048x512.Idx)
    (hi : i ∈ oRows (lo (nb a c) a j) n) :
    (oM n off inb).view.write (Elt F) fd ((oM n off' inb').view.read (Elt F) (fin m ρ c)) Finset.univ i = fin m ρ (nb a c) i := by
  have hr := mem_rows.1 hi
  rw [hn] at hr
  rw [write_o hoff hoff' inb inb' fd (fin m ρ c) i hi]
  unfold fin
  rw [srcD_forward (nb a c) a ha j _ hr, nb_nb]

/-- What the copy of a device's own block leaves in its array. -/
theorem land_own (c : Dev nD) {off : Fin 2 → ℕ} (hoff : off = ![own c, 0]) (inb) (fd : OBuf F) (i : S2048x512.Idx)
    (hi : i ∈ oRows (own c) 1024) :
    (oM 1024 off inb).view.write (Elt F) fd ((Memref.whole cc0_stg0_0 : Memref sig .tc .vmem S1024x512 .f32).view.read (Elt F) (xs m ρ c)) Finset.univ i = fin m ρ c i := by
  have hr := mem_rows.1 hi
  have ho : own c = 0 ∨ own c = 1024 := by unfold own; omega
  unfold fin
  rw [srcD_own c _ hr]
  subst hoff
  obtain ⟨x, e⟩ := oM_emb (own c) 1024 inb i hi
  have ej : x = red i := by
    have e0 : own c + 1 * (x (0 : Fin 2)).val = (i (0 : Fin 2)).val := congrArg (fun k : S2048x512.Idx => (k (0 : Fin 2)).val) e
    have e1 : 0 + 1 * (x (1 : Fin 2)).val = (i (1 : Fin 2)).val := congrArg (fun k : S2048x512.Idx => (k (1 : Fin 2)).val) e
    funext y
    fin_cases y
    · apply Fin.ext; show (x (0 : Fin 2)).val = (i (0 : Fin 2)).val % 1024
      rcases ho with h | h <;> omega
    · apply Fin.ext; show (x (1 : Fin 2)).val = (i (1 : Fin 2)).val; omega
  rw [← ej, ← e, View.write_emb_of_mem _ _ (Finset.mem_univ x), View.read_apply]
  rfl

end Cert.GatherProof

end
-- ==== Proof.Sched.lean ====
/-
The semaphore cells of the exchange and what each hands over: a device's barrier cell (one unit from each neighbour), a
send and a receive cell for each transfer, and the cell of its copy of its own block.
-/
module

public import proofs.«01_k».proof.Proof.Contents

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy (duties `Unit`) and the exchange's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Cells -/

/-- A transfer: its direction and its index. -/
abbrev Tr : Type := Fin 3 × Fin 9
/-- The kernel's own DMA cells: of the copy of a device's own block (`none`), of the send (`false`) or receive (`true`) side of a transfer. -/
abbrev OK : Type := Option (Bool × Tr)
/-- All the cells of the exchange: the barrier cell is `none`. -/
abbrev CK : Type := Option OK

set_option backward.proofsInPublic true in
/-- The send and receive semaphores of a transfer, by number. -/
def sIx (k : Tr) : DmaSem sig := ⟨2 + 18 * k.1.val + k.2.val, by have := k.1.isLt; have := k.2.isLt; show _ < 57; omega⟩
set_option backward.proofsInPublic true in
def rIx (k : Tr) : DmaSem sig := ⟨11 + 18 * k.1.val + k.2.val, by have := k.1.isLt; have := k.2.isLt; show _ < 57; omega⟩
set_option backward.proofsInPublic true in
/-- The semaphore of the copy of the own block. -/
def oIx : DmaSem sig := ⟨56, by decide⟩

/-- The runtime's barrier semaphore. -/
abbrev barS : Sem sig := (SemArray.scalar (sig.barrier 0 rfl) : Sems sig S_).sem

def osem : OK → SemLoc sig
  | none => .dma oIx
  | some (false, k) => .dma (sIx k)
  | some (true, k) => .dma (rIx k)
def csem : CK → SemLoc sig
  | none => .reg barS
  | some k => osem k

/-- Which own cell a DMA semaphore is: none for the two staging semaphores. -/
def role (q : DmaSem sig) : Option OK :=
  if q.val < 2 then none else if q.val = 56 then some none
  else some (some (decide ((q.val - 2) / 9 % 2 = 1), (⟨(q.val - 2) / 18 % 3, Nat.mod_lt _ (by decide)⟩, ⟨(q.val - 2) % 9, Nat.mod_lt _ (by decide)⟩)))

theorem role_s : ∀ k, role (sIx k) = some (some (false, k)) := by decide
theorem role_r : ∀ k, role (rIx k) = some (some (true, k)) := by decide
theorem role_o : role oIx = some none := by decide

abbrev barC (c : Dev nD) : GSem nD τ sig := ((c : Thread nD τ), .reg barS)
abbrev sC (c : Dev nD) (k : Tr) : GSem nD τ sig := ((c : Thread nD τ), .dma (sIx k))
abbrev rC (c : Dev nD) (k : Tr) : GSem nD τ sig := ((c : Thread nD τ), .dma (rIx k))
abbrev oC (c : Dev nD) : GSem nD τ sig := ((c : Thread nD τ), .dma oIx)
abbrev kcell (ck : Dev nD × CK) : GSem nD τ sig := ((ck.1 : Thread nD τ), csem ck.2)

/-- What a copy of `n` rows credits. -/
abbrev crd (n : ℕ) : ℕ := RefSig.tileCredit ⟨2, ![n, 512]⟩ .f32

theorem crd_pos (n : ℕ) (h : 0 < n) : 0 < crd n :=
  RefSig.tileCredit_pos _ _ (Nat.pos_of_ne_zero fun h0 => by
    obtain ⟨a, -, ha⟩ := Finset.prod_eq_zero_iff.mp h0
    fin_cases a
    · exact absurd ha (Nat.pos_iff_ne_zero.mp h)
    · exact absurd ha (show (512 : ℕ) ≠ 0 by decide))

theorem len_pos (a : Fin 3) (j : Fin 9) : 0 < len a j := by unfold len; split; · decide
                                                            split <;> decide

/-! ## What the cells hand over -/

abbrev xL (c : Dev nD) : Loc nD τ sig := (c : Thread nD τ).loc cc0_stg0_0
abbrev oL (c : Dev nD) : Loc nD τ sig := (c : Thread nD τ).loc cc0_stg1_0

/-- A band of rows of a device's input block, and of its gathered array. -/
def xP (c : Dev nD) (a n : ℕ) (q : PosShare TreeShare) (f : XBuf F) : sProp 𝕄 := (xL c) ↦[xRows a n]{q} f
def oP (c : Dev nD) (a n : ℕ) (q : PosShare TreeShare) (f : OBuf F) : sProp 𝕄 := (oL c) ↦[oRows a n]{q} f

omit [FloatOps F] in
instance xP_storable (c : Dev nD) (a n q f) : BI.Storable (upEmb : UEmb _ 𝕄) (xP (F := F) c a n q f) := by unfold xP; infer_instance
omit [FloatOps F] in
instance oP_storable (c : Dev nD) (a n q f) : BI.Storable (upEmb : UEmb _ 𝕄) (oP (F := F) c a n q f) := by unfold oP; infer_instance

/-- The share of its source a forward along `x` or `z` takes. -/
def fq (k : Tr) : PosShare TreeShare := if k.2.val < 8 then (if k.1 = 1 then fullShare.left else fullShare.right) else fullShare

/-- The source of transfer `k` at its sender `c`. -/
def srcP (c : Dev nD) (k : Tr) : sProp 𝕄 :=
  if k.1 = 0 then xP c (lo (ny c) 0 k.2 - own c) (len 0 k.2) fullShare.left (xs m ρ c)
  else oP c (lo (nb k.1 c) k.1 k.2) (len k.1 k.2) (fq k) (fin m ρ c)

/-- Where transfer `k` of sender `c` lands, before it does. -/
def dstP (c : Dev nD) (k : Tr) : sProp 𝕄 := iprop(∃ f, oP (nb k.1 c) (lo (nb k.1 c) k.1 k.2) (len k.1 k.2) fullShare f)

/-- The band transfer `k` fills at `c`, filled. -/
def recvP (c : Dev nD) (k : Tr) : sProp 𝕄 := oP c (lo c k.1 k.2) (len k.1 k.2) fullShare (fin m ρ c)

/-- What the copy of its own block gives back to `c`. -/
def ownP (c : Dev nD) : sProp 𝕄 := iprop(oP c (own c) 1024 fullShare (fin m ρ c) ∗ xP c 0 1024 fullShare.right (xs m ρ c))

/-- The destinations the neighbour in direction `a` hands over. -/
def barP (c : Dev nD) (a : Fin 3) : sProp 𝕄 := bigSep Finset.univ fun j : Fin 9 => dstP c (a, j)

omit [FloatOps F] in
instance srcP_storable (c : Dev nD) (k) : BI.Storable (upEmb : UEmb _ 𝕄) (srcP (F := F) m ρ c k) := by unfold srcP; split <;> infer_instance
omit [FloatOps F] in
instance dstP_storable (c : Dev nD) (k) : BI.Storable (upEmb : UEmb _ 𝕄) (dstP (F := F) c k) := by unfold dstP; infer_instance
omit [FloatOps F] in
instance recvP_storable (c : Dev nD) (k) : BI.Storable (upEmb : UEmb _ 𝕄) (recvP (F := F) m ρ c k) := by unfold recvP; infer_instance
omit [FloatOps F] in
instance ownP_storable (c : Dev nD) : BI.Storable (upEmb : UEmb _ 𝕄) (ownP (F := F) m ρ c) := by unfold ownP; infer_instance
omit [FloatOps F] in
instance barP_storable (c : Dev nD) (a) : BI.Storable (upEmb : UEmb _ 𝕄) (barP (F := F) c a) := by unfold barP; infer_instance

/-- What an own cell hands over, and how much it is credited. -/
def payP (c : Dev nD) : OK → sProp 𝕄
  | none => ownP m ρ c
  | some (false, k) => srcP m ρ c k
  | some (true, k) => recvP m ρ c k
def payN : OK → ℕ
  | none => crd 1024
  | some (_, k) => crd (len k.1 k.2)

theorem payN_pos (k : OK) : 0 < payN k := by
  rcases k with _ | ⟨_, k⟩
  · exact crd_pos 1024 (by decide)
  · exact crd_pos _ (len_pos _ _)

/-- One round: a barrier cell has a unit from each direction, an own DMA cell one duty of the copy's credit. -/
def Rd : Rounds.Schedule (GSem nD τ sig) (Fin 3) 𝕄 where
  duties g r := if r = 0 ∧ g.1.2 = .tc then
      (match g.2 with
        | .reg _ => Finset.univ
        | .dma q => if (role q).isSome then {0} else ∅)
    else ∅
  unitless _ := False
  amount g _ _ := match g.2 with
    | .reg _ => 1
    | .dma q => ((role q).map payN).getD 1
  payload g _ d := match g.2 with
    | .reg _ => barP g.1.1 d
    | .dma q => ((role q).map (payP m ρ g.1.1)).getD iprop(emp)
  amount_pos g _ _ _ := by
    rcases g with ⟨t, _ | q⟩
    · exact Nat.one_pos
    · dsimp only
      cases h : role q with
      | none => exact Nat.one_pos
      | some k => exact payN_pos k

omit [FloatOps F] in
instance Rd_payload_storable (g : GSem nD τ sig) (r : ℕ) (d : Fin 3) :
    BI.Storable (upEmb : UEmb _ 𝕄) ((Rd (F := F) m ρ).payload g r d) := by
  rcases g with ⟨t, _ | q⟩
  · exact barP_storable _ _
  · show BI.Storable upEmb (((role q).map (payP m ρ t.1)).getD iprop(emp))
    cases h : role q with
    | none => exact (inferInstance : BI.Storable (upEmb : UEmb _ 𝕄) (iprop(emp) : sProp 𝕄))
    | some k =>
      rcases k with _ | ⟨_ | _, k⟩
      · exact ownP_storable m ρ _
      · exact srcP_storable m ρ _ _
      · exact recvP_storable m ρ _ _

section Facts
variable (c : Dev nD)

omit [FloatOps F] in
theorem duties_bar : (Rd (F := F) m ρ).duties (barC c) 0 = Finset.univ := by dsimp only [Rd]; exact if_pos ⟨rfl, rfl⟩
omit [FloatOps F] in
theorem duties_dma {q : DmaSem sig} {k : OK} (h : role q = some k) : (Rd (F := F) m ρ).duties ((c : Thread nD τ), .dma q) 0 = {0} := by
  dsimp only [Rd]; rw [if_pos ⟨rfl, rfl⟩, h]; rfl
omit [FloatOps F] in
theorem duties_later (g : GSem nD τ sig) : ∀ r, 1 ≤ r → (Rd (F := F) m ρ).duties g r = ∅ :=
  fun r hr => by dsimp only [Rd]; rw [if_neg fun h => by omega]

omit [FloatOps F] in
theorem amount_bar (d : Fin 3) : (Rd (F := F) m ρ).amount (barC c) 0 d = 1 := rfl
omit [FloatOps F] in
theorem amount_dma {q : DmaSem sig} {k : OK} (h : role q = some k) (d : Fin 3) :
    (Rd (F := F) m ρ).amount ((c : Thread nD τ), .dma q) 0 d = payN k := by
  dsimp only [Rd]; rw [h]; rfl
omit [FloatOps F] in
theorem payload_bar (d : Fin 3) : (Rd (F := F) m ρ).payload (barC c) 0 d = barP c d := rfl
omit [FloatOps F] in
theorem payload_dma {q : DmaSem sig} {k : OK} (h : role q = some k) (d : Fin 3) :
    (Rd (F := F) m ρ).payload ((c : Thread nD τ), .dma q) 0 d = payP m ρ c k := by
  dsimp only [Rd]; rw [h]; rfl

omit [FloatOps F] in
theorem expect_bar : (Rd (F := F) m ρ).expect (barC c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_dma {q : DmaSem sig} {k : OK} (h : role q = some k) : (Rd (F := F) m ρ).expect ((c : Thread nD τ), .dma q) 0 = payN k := by
  unfold Schedule.expect Schedule.amountOf; rw [duties_dma m ρ c h, Finset.sum_singleton, amount_dma m ρ c h]

omit [FloatOps F] in
/-- The barrier cell's round, no duty taken: the destinations at all three neighbours. -/
theorem rest_bar : bigSep ((Rd (F := F) m ρ).duties (barC c) 0 \ ∅) (fun d => (Rd (F := F) m ρ).payload (barC c) 0 d)
    = bigSep Finset.univ fun k : Tr => dstP c k := by
  rw [Finset.sdiff_empty, duties_bar, bigSep_univ_prod]; rfl
omit [FloatOps F] in
theorem rest_dma {q : DmaSem sig} {k : OK} (h : role q = some k) :
    bigSep ((Rd (F := F) m ρ).duties ((c : Thread nD τ), .dma q) 0 \ ∅) (fun d => (Rd (F := F) m ρ).payload ((c : Thread nD τ), .dma q) 0 d) = payP m ρ c k := by
  rw [Finset.sdiff_empty, duties_dma m ρ c h, bigSep_singleton, payload_dma m ρ c h]

end Facts

/-! ## What each core owes; the levels -/

/-- What `c` owes with the transfers `l` still to send: the receive credits at their targets. -/
def Ow (c : Dev nD) : List Tr → CellTallies nD τ sig Unit
  | [] => 0
  | k :: l => Ow c l + tallyAt (rC (nb k.1 c) k) () (crd (len k.1 k.2))

/-- The transfers in program order. -/
def sends : List Tr :=
  [(0, 0), (0, 1), (0, 2), (0, 3), (0, 4), (0, 5), (0, 6), (0, 7), (0, 8),
   (1, 0), (2, 0), (1, 1), (2, 1), (1, 2), (2, 2), (1, 3), (2, 3), (1, 4), (2, 4), (1, 5), (2, 5), (1, 6), (2, 6), (1, 7), (2, 7),
   (1, 8), (2, 8)]

theorem sends_nodup : sends.Nodup := by decide
theorem sends_univ : (Finset.univ : Finset Tr) = sends.toFinset := by decide

/-- What `c` owes before its third, second and first signal. -/
def O₂ (c : Dev nD) : CellTallies nD τ sig Unit := Ow c sends + tallyAt (barC (nz c)) () 1
def O₁ (c : Dev nD) : CellTallies nD τ sig Unit := O₂ c + tallyAt (barC (nx c)) () 1
def O₀ (c : Dev nD) : CellTallies nD τ sig Unit := O₁ c + tallyAt (barC (ny c)) () 1

def L (g : GSem nD τ sig) : Finset Unit := if g.1.2 = .tc then {()} else ∅
/-- The level of a transfer's receive cell. -/
def tl (k : Tr) : ℕ := if k.1 = 0 then 2 else if k.2.val < 8 then 3 else 4
def ql (q : DmaSem sig) : ℕ := match role q with
  | some (some (true, k)) => tl k
  | _ => 0
/-- Barrier cells at 1, receive cells by the transfers they wait for, everything else at 0. -/
def lv (g : GSem nD τ sig) (_ : Unit) : ℕ := match g.2 with
  | .reg _ => 1
  | .dma q => ql q

theorem ql_r (k : Tr) : ql (rIx k) = tl k := by unfold ql; rw [role_r]
theorem tl_ge (k : Tr) : 2 ≤ tl k := by unfold tl; split; · decide
                                        split <;> decide

theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {l : List Tr} {g : GSem nD τ sig} {u : Unit} (h : 0 < Ow c l g u) : ∃ k ∈ l, g = rC (nb k.1 c) k := by
  induction l with
  | nil => exact absurd h (Nat.lt_irrefl 0)
  | cons k l ih =>
    unfold Ow at h
    rw [Pi.add_apply, Finsupp.add_apply, tallyAt_apply] at h
    by_cases hg : g = rC (nb k.1 c) k ∧ u = ()
    · exact ⟨k, List.mem_cons_self .., hg.1⟩
    · rw [if_neg hg, Nat.add_zero] at h
      obtain ⟨k', hk', e⟩ := ih h
      exact ⟨k', List.mem_cons_of_mem _ hk', e⟩

theorem O₀_pos {c : Dev nD} {g : GSem nD τ sig} {u : Unit} (h : 0 < O₀ c g u) :
    (∃ k ∈ sends, g = rC (nb k.1 c) k) ∨ ∃ a, g = barC (nb a c) := by
  unfold O₀ O₁ O₂ at h
  simp only [Pi.add_apply, Finsupp.add_apply, tallyAt_apply, and_true] at h
  by_cases h1 : g = barC (ny c)
  · exact .inr ⟨0, h1⟩
  by_cases h2 : g = barC (nx c)
  · exact .inr ⟨1, h2⟩
  by_cases h3 : g = barC (nz c)
  · exact .inr ⟨2, h3⟩
  rw [if_neg h1, if_neg h2, if_neg h3] at h
  exact Or.inl (Ow_pos (c := c) (l := sends) (g := g) (u := u) h)

omit [FloatOps F] in
/-- A cell may be waited on while only transfers to cells of higher level are owed. -/
theorem mayWait_of (c : Dev nD) (sm : SemLoc sig) (n : ℕ) (hn : lv ((c : Thread nD τ), sm) () ≤ n) (l : List Tr) (hl : ∀ k ∈ l, n < tl k) :
    (levAts L lv : sProp 𝕄) ⊢ MayWait (c : Thread nD τ) sm () (Ow c l) :=
  MayOwe.of_cut (L := L) (lev := lv) n (fun p hp => by rw [Finset.mem_singleton.mp hp, L_tc]; exact Finset.mem_singleton_self _)
    (fun g u hg => by obtain ⟨k, _, rfl⟩ := Ow_pos hg; exact Finset.mem_singleton_self _)
    (fun p hp => by rw [Finset.mem_singleton.mp hp]; exact hn)
    (fun g u hg => by obtain ⟨k, hk, rfl⟩ := Ow_pos hg; show n < ql (rIx k); rw [ql_r]; exact hl k hk)

omit [FloatOps F] in
/-- The staging cells may be waited on at launch and at the end. -/
theorem mayWait_stage (c : Dev nD) (q : DmaSem sig) (hq : ql q = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨a, rfl⟩ <;> exact Finset.mem_singleton_self _)
      (fun p hp => by rw [Finset.mem_singleton.mp hp]; exact hq.le)
      (fun g u hg => by
        rcases O₀_pos hg with ⟨k, _, rfl⟩ | ⟨a, rfl⟩
        · show 0 < ql (rIx k); rw [ql_r]; exact lt_of_lt_of_le (by decide) (tl_ge k)
        · exact Nat.one_pos)
  · rw [MayWait_zero]; iintro -; iempintro

end Cert.GatherProof

end
-- ==== Proof.Ops.lean ====
/-
One rule for each kind of step the kernel takes, over the transfer it belongs to: a signal, the barrier wait, a send along
`y`, a forward along `x` or `z`, a receive wait, a send wait, the copy of the own block and its wait.
-/
module

public import proofs.«01_k».proof.Proof.Sched
public import Idealize.ShloMosaic.Lib.Pipeline.BigSepL

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every step may use -/

/-- Every cell's invariant, under the names `K`, and that its round 0 is reached; the level facts. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

def Ctx (K : Dev nD × CK → ℕ) : sProp 𝕄 := iprop(records m ρ K ∗ levAts L lv)

instance Ctx_persistent (K : Dev nD × CK → ℕ) : BI.Persistent (Ctx m ρ K) := by unfold Ctx; infer_instance

theorem ctx_inv (K : Dev nD × CK → ℕ) (ck : Dev nD × CK) : Ctx m ρ K ⊢ cellInv ER (Rd m ρ) (K ck) (kcell ck) := by
  unfold Ctx records
  iintro ⟨⟨HI, -⟩, -⟩
  iapply (show (bigSep Finset.univ fun ck : Dev nD × CK => (cellInv ER (Rd m ρ) (K ck) (kcell ck) : sProp 𝕄)) ⊢ cellInv ER (Rd m ρ) (K ck) (kcell ck) from bigSep_elim (Finset.mem_univ ck)) $$ HI
theorem ctx_reached (K : Dev nD × CK → ℕ) (ck : Dev nD × CK) : Ctx m ρ K ⊢ reached ER (kcell ck) 0 := by
  unfold Ctx records
  iintro ⟨⟨-, HR⟩, -⟩
  iapply (show (bigSep Finset.univ fun ck : Dev nD × CK => (reached ER (kcell ck) 0 : sProp 𝕄)) ⊢ reached ER (kcell ck) 0 from bigSep_elim (Finset.mem_univ ck)) $$ HR
theorem ctx_lev (K : Dev nD × CK → ℕ) : Ctx m ρ K ⊢ (levAts L lv : sProp 𝕄) := by
  unfold Ctx
  iintro ⟨-, H⟩; iexact H

/-! ## What a device holds as it goes -/

/-- For a transfer still to send: both duty tokens and the position at the send cell. -/
def sendR (c : Dev nD) (k : Tr) : sProp 𝕄 :=
  iprop(dutyTok ER (sC c k) 0 0 ∗ dutyTok ER (rC (nb k.1 c) k) 0 0 ∗ atPos ER (sC c k) 0 ∅ 0)
/-- For a transfer sent and not waited for: the send cell's credit and position. -/
def sentR (c : Dev nD) (k : Tr) : sProp 𝕄 := iprop(cred (tallyAt (sC c k) () (crd (len k.1 k.2))) ∗ atPos ER (sC c k) 0 ∅ 0)
/-- For a transfer still to receive: the receive cell's credit and position. -/
def recvR (c : Dev nD) (k : Tr) : sProp 𝕄 := iprop(cred (tallyAt (rC c k) () (crd (len k.1 k.2))) ∗ atPos ER (rC c k) 0 ∅ 0)
/-- A closed own cell. -/
def zeroR (c : Dev nD) (k : OK) : sProp 𝕄 := semVal ((c : Thread nD τ), osem k) 0

/-- With the transfers `S` to send, `R` to receive, `I` sent and not waited for, and the cells `Z` closed. -/
def Run (c : Dev nD) (S R I : List Tr) (Z : List OK) : sProp 𝕄 :=
  iprop((∃ W, owes (c : Thread nD τ) (Ow c S) W) ∗ (bigSepL S fun k => iprop(sendR c k ∗ dstP c k)) ∗ (bigSepL R fun k => recvR c k)
    ∗ (bigSepL I fun k => sentR c k) ∗ bigSepL Z fun k => zeroR c k)

variable {α : Type} {Q : α → sProp (MT nD τ sig Unit (Elt F) ℕ UU ℕ)}
variable (K : Dev nD × CK → ℕ) (c : Dev nD)

/-- The device's own bands that its neighbour in direction `a` fills, before they are. -/
def bands (c : Dev nD) (a : Fin 3) : sProp 𝕄 := bigSep Finset.univ fun j : Fin 9 => iprop(∃ f, oP c (lo c a j) (len a j) fullShare f)

omit [FloatOps F] in
theorem bands_barP (a : Fin 3) : (bands c a : sProp 𝕄) = barP (nb a c) a := by
  unfold bands barP dstP; dsimp only; rw [nb_nb]

/-- A signal to the neighbour in direction `a`. -/
theorem step_signal (a : Fin 3) (n : Dev nD) (hn : n = nb a c) (k' : ℕ) (hk' : 1 = k') (O : CellTallies nD τ sig Unit)
    {k : PUnit → Prog (TpuEff nD τ sig (Elt F) Λ₀ .tc) α} :
    iprop(Ctx m ρ K ∗ (∃ W, owes (c : Thread nD τ) (O + tallyAt (barC (nb a c)) () 1) W) ∗ dutyTok ER (barC (nb a c)) 0 a ∗ bands c a)
      ⊢ iprop(((∃ W, owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn hk'
  iintro ⟨#HC, ⟨%W, HO⟩, Ht, Hb⟩ Hk
  iapply (Rounds.wp_signal 𝒱₀ ER (Rd m ρ) (c : Thread nD τ) none (dst := (nb a c : Thread nD τ)) (κ := K (nb a c, none))
      (d := a) (by rw [duties_bar]; exact Finset.mem_univ _) (amount_bar m ρ (nb a c) a) () O rfl) $$ [HO Ht Hb]
  · isplitr; · iapply (ctx_inv m ρ K (nb a c, none)); iexact HC
    isplitl [HO]; · iexact HO
    isplitl [Ht]; · iexact Ht
    isplitl [Hb]; · rw [payload_bar, ← bands_barP]; iexact Hb
    iapply (ctx_reached m ρ K (nb a c, none)); iexact HC
  iintro HO
  iapply Hk
  iexists W; iexact HO

/-- The wait for all three neighbours: the destinations of every transfer come with it. -/
theorem step_barrier (R : List Tr) (hR : (Finset.univ : Finset Tr) = R.toFinset) (hR' : R.Nodup) (k' : ℕ) (hk' : 3 = k') {k : PUnit → Prog (TpuEff nD τ sig (Elt F) Λ₀ .tc) α} :
    iprop(Ctx m ρ K ∗ (∃ W, owes (c : Thread nD τ) (Ow c sends) W) ∗ cred (tallyAt (barC c) () 3) ∗ atPos ER (barC c) 0 ∅ 0
        ∗ (bigSep Finset.univ fun k : Tr => sendR c k) ∗ (bigSep Finset.univ fun k : Tr => recvR c k))
      ⊢ iprop((Run c sends R [] [] ∗ semVal (barC c) 0 -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HC, ⟨%W, HO⟩, Hc, Ha, HS, HR⟩ Hk
  iapply (Rounds.wp_wait_rest_token 𝒱₀ ER (Rd m ρ) (c : Thread nD τ) none (κ := K (c, none))
      (wpE_semWait_eq 𝒱₀ (c : Thread nD τ) none Set.univ) (Set.mem_univ _) () (O := Ow c sends) (W := W) (R := 0) (m := 0) (T := ∅)
      (by rw [Nat.zero_add]; exact (expect_bar m ρ c).symm)) $$ [Hc HO Ha]
  · isplitr; · iapply (ctx_inv m ρ K (c, none)); iexact HC
    isplitl [Hc]; · iexact Hc
    isplitl [HO]; · iexact HO
    isplitr; · iapply ((ctx_lev m ρ K).trans (mayWait_of c (.reg barS) 1 le_rfl sends fun k _ => lt_of_lt_of_le (by decide) (tl_ge k))); iexact HC
    iexact Ha
  iintro ⟨HO, Ha, -, Hp⟩
  ihave Hd := (Entails.of_eq (rest_bar m ρ c)) $$ Hp
  imod (Rounds.cell_close ER (Rd m ρ) (Set.mem_univ (K (c, none))) (fun h => h) (R := 0 + 1) (duties_later m ρ (barC c))) $$ [Ha] with Hz
  · isplitr; · iapply (ctx_inv m ρ K (c, none)); iexact HC
    iexact Ha
  iapply Hk
  isplitr [Hz]
  · unfold Run
    isplitl [HO]; · iexists _; iexact HO
    isplitl [HS Hd]
    · rw [← bigSep_univ_eq_bigSepL sends sends_univ sends_nodup, bigSep_sep']
      isplitl [HS] <;> iassumption
    isplitl [HR]; · rw [← bigSep_univ_eq_bigSepL R hR hR']; iexact HR
    isplitr <;> iempintro
  iexact Hz

/-- A send: the source goes out, its send cell's credit comes in. -/
theorem step_send (t : Tr) (S R I : List Tr) (Z : List OK) (n : Dev nD) (hn : n = nb t.1 c) {sp : Space} {N : ℕ} {src : Memref sig .tc sp ⟨2, ![N, 512]⟩ .f32}
    {fs : Buf (Elt F) (src.view.loc (c : Thread nD τ))} {q : PosShare TreeShare}
    {off : Fin 2 → ℕ} (hN : N = len t.1 t.2) (hoff : off = ![lo (nb t.1 c) t.1 t.2, 0]) (inb)
    {sS sR : DmaSem sig} (hS : sS = sIx t) (hR : sR = rIx t)
    (hsP : srcP m ρ c t = (src.view.loc (c : Thread nD τ) ↦[src.view.set]{q} fs))
    (hland : ∀ fd : OBuf F, ∀ i ∈ oRows (lo (nb t.1 c) t.1 t.2) (len t.1 t.2), (oM N off inb).view.write (Elt F) fd (src.view.read (Elt F) fs) Finset.univ i = fin m ρ (nb t.1 c) i)
    {hsc : (oM N off inb : Memref sig (Dev.tc n : Thread nD τ).2.kind .vmem _ .f32).view.ref.isScScratch = false}
    {hsrc : src.view.WordExact} {hdst : (oM N off inb).view.WordExact}
    {hsem : DmaTarget.Typed sp (.dma sR) (.remote (Dev.tc n : Thread nD τ) (oM N off inb) (.dma sS) hsc)}
    {k : PUnit → Prog (TpuEff nD τ sig (Elt F) Λ₀ .tc) α} :
    iprop(Ctx m ρ K ∗ Run c (t :: S) R I Z ∗ srcP m ρ c t)
      ⊢ iprop((Run c S R (t :: I) Z -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (oM N off inb) (.dma sS) hsc) (.dma sR) hsrc hdst hsem) k) Q) := by
  subst hn hS hR
  have hset : (oM N off inb).view.set = oRows (lo (nb t.1 c) t.1 t.2) (len t.1 t.2) :=
    (oM_set N _ off hoff inb).trans (congrArg _ hN)
  unfold Run
  rw [bigSepL_cons', hsP]
  unfold sendR dstP
  iintro ⟨#HC, ⟨⟨%W, HO⟩, ⟨⟨⟨Ht1, Ht2, Ha⟩, ⟨%fd, Hd⟩⟩, HS⟩, HR, HI, HZ⟩, Hs⟩ Hk
  iapply (Rounds.wp_send_pointsTo 𝒱₀ ER (Rd m ρ) (c : Thread nD τ) none (κ₁ := K (c, some (some (false, t)))) (κ₂ := K (nb t.1 c, some (some (true, t))))
    (r₁ := 0) (r₂ := 0) (d₁ := 0) (d₂ := 0) (fd := fd)
    (by rw [duties_dma m ρ c (role_s t)]; exact Finset.mem_singleton_self _) (by rw [duties_dma m ρ (nb t.1 c) (role_r t)]; exact Finset.mem_singleton_self _)
    () () (crd (len t.1 t.2)) (by rw [← hN]) (amount_dma m ρ c (role_s t) 0) (amount_dma m ρ (nb t.1 c) (role_r t) 0) (Ow c S) rfl (W := W)
    (by rw [payload_dma m ρ c (role_s t)]; exact Entails.of_eq hsP.symm)
    (by
      rw [payload_dma m ρ (nb t.1 c) (role_r t)]
      show _ ⊢ recvP m ρ (nb t.1 c) t
      unfold recvP oP
      rw [hset]
      exact Entails.of_eq (pointsTo_congr (hland fd)))) $$ [HO Ht1 Ht2 Hd Hs]
  · isplitr; · iapply (ctx_inv m ρ K (c, some (some (false, t)))); iexact HC
    isplitr; · iapply (ctx_inv m ρ K (nb t.1 c, some (some (true, t)))); iexact HC
    isplitl [Hs]; · iexact Hs
    isplitl [Hd]; · unfold oP; rw [hset]; iexact Hd
    isplitl [HO]; · iexact HO
    isplitl [Ht1]; · iexact Ht1
    isplitr; · iapply (ctx_reached m ρ K (c, some (some (false, t)))); iexact HC
    isplitl [Ht2]; · iexact Ht2
    iapply (ctx_reached m ρ K (nb t.1 c, some (some (true, t)))); iexact HC
  iintro ⟨Hc, HO⟩
  iapply Hk
  isplitl [HO]; · iexists W; iexact HO
  isplitl [HS]; · iexact HS
  isplitl [HR]; · iexact HR
  isplitl [HI Hc Ha]
  · rw [bigSepL_cons']
    isplitl [Hc Ha]
    · unfold sentR
      isplitl [Hc] <;> iassumption
    iexact HI
  iexact HZ

/-- A send along `y`. -/
theorem send_y (j : Fin 9) (S R I : List Tr) (Z : List OK) (n : Dev nD) (hn : n = ny c) {N : ℕ} (hN : N = len 0 j) {off off' : Fin 2 → ℕ}
    (hoff : off = ![lo (ny c) 0 j, 0]) (hoff' : off' = ![lo (ny c) 0 j - own c, 0]) {inb inb'}
    {sS sR : DmaSem sig} (hS : sS = sIx (0, j)) (hR : sR = rIx (0, j))
    {hsc : (oM N off inb : Memref sig (Dev.tc n : Thread nD τ).2.kind .vmem _ .f32).view.ref.isScScratch = false}
    {hsrc : (xM N off' inb').view.WordExact} {hdst : (oM N off inb).view.WordExact}
    {hsem : DmaTarget.Typed .vmem (.dma sR) (.remote (Dev.tc n : Thread nD τ) (oM N off inb) (.dma sS) hsc)}
    {k : PUnit → Prog (TpuEff nD τ sig (Elt F) Λ₀ .tc) α} :
    iprop(Ctx m ρ K ∗ Run c ((0, j) :: S) R I Z ∗ srcP m ρ c (0, j))
      ⊢ iprop((Run c S R ((0, j) :: I) Z -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM N off' inb') (.remote (Dev.tc n : Thread nD τ) (oM N off inb) (.dma sS) hsc) (.dma sR) hsrc hdst hsem) k) Q) :=
  step_send m ρ K c (0, j) S R I Z n hn (src := xM N off' inb') (fs := xs m ρ c) (q := fullShare.left) hN hoff inb hS hR
    (show srcP m ρ c (0, j) = (xL c ↦[(xM N off' inb').view.set]{fullShare.left} xs m ρ c) by
      rw [xM_set N _ off' hoff' inb']; unfold srcP; rw [if_pos rfl]; unfold xP; rw [hN])
    (fun fd i hi => land_y m ρ c j hoff hoff' hN inb inb' fd i (by rw [hN]; exact hi))

/-- A forward along `x` or `z`. -/
theorem send_fwd (t : Tr) (ht : t.1 ≠ 0) (S R I : List Tr) (Z : List OK) (n : Dev nD) (hn : n = nb t.1 c) {N : ℕ} (hN : N = len t.1 t.2) {off off' : Fin 2 → ℕ}
    (hoff : off = ![lo (nb t.1 c) t.1 t.2, 0]) (hoff' : off' = ![lo (nb t.1 c) t.1 t.2, 0]) {inb inb'}
    {sS sR : DmaSem sig} (hS : sS = sIx t) (hR : sR = rIx t)
    {hsc : (oM N off inb : Memref sig (Dev.tc n : Thread nD τ).2.kind .vmem _ .f32).view.ref.isScScratch = false}
    {hsrc : (oM N off' inb').view.WordExact} {hdst : (oM N off inb).view.WordExact}
    {hsem : DmaTarget.Typed .vmem (.dma sR) (.remote (Dev.tc n : Thread nD τ) (oM N off inb) (.dma sS) hsc)}
    {k : PUnit → Prog (TpuEff nD τ sig (Elt F) Λ₀ .tc) α} :
    iprop(Ctx m ρ K ∗ Run c (t :: S) R I Z ∗ srcP m ρ c t)
      ⊢ iprop((Run c S R (t :: I) Z -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM N off' inb') (.remote (Dev.tc n : Thread nD τ) (oM N off inb) (.dma sS) hsc) (.dma sR) hsrc hdst hsem) k) Q) :=
  step_send m ρ K c t S R I Z n hn (src := oM N off' inb') (fs := fin m ρ c) (q := fq t) hN hoff inb hS hR
    (show srcP m ρ c t = (oL c ↦[(oM N off' inb').view.set]{fq t} fin m ρ c) by
      rw [oM_set N _ off' hoff' inb']; unfold srcP; rw [if_neg ht]; unfold oP; rw [hN])
    (fun fd i hi => land_fwd m ρ c t.1 ht t.2 hoff hoff' hN inb inb' fd i (by rw [hN]; exact hi))

/-- A wait for the rest of an own cell's round: what it hands over comes, and the cell closes. -/
theorem step_wait (k : OK) (n : ℕ) (hn : n = payN k) (P : sProp 𝕄) (hP : payP m ρ c k = P) (S : List Tr) {sm : DmaSem sig} (hsm : role sm = some k) (ho : osem k = .dma sm) (hl : ∀ t ∈ S, ql sm < tl t)
    {sp sp' : Space} {s s' : Shape} {e e' : EltTy} {src : Memref sig .tc sp' s' e'} {κ' : Kind} {dst : Memref sig κ' sp s e} {hsrc : src.view.WordExact} {hdst : dst.view.WordExact}
    (hN : dst.view.dmaCredit = n) {kk : PUnit → Prog (TpuEff nD τ sig (Elt F) Λ₀ .tc) α} :
    iprop(Ctx m ρ K ∗ (∃ W, owes (c : Thread nD τ) (Ow c S) W) ∗ cred (tallyAt ((c : Thread nD τ), .dma sm) () n) ∗ atPos ER ((c : Thread nD τ), .dma sm) 0 ∅ 0)
      ⊢ iprop(((∃ W, owes (c : Thread nD τ) (Ow c S) W) ∗ zeroR c k ∗ P
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hn hP
  have hinv : Ctx m ρ K ⊢ cellInv ER (Rd m ρ) (K (c, some k)) ((c : Thread nD τ), .dma sm) := by
    rw [← ho]; exact ctx_inv m ρ K (c, some k)
  iintro ⟨#HC, ⟨%W, HO⟩, Hc, Ha⟩ Hk
  iapply (Rounds.wp_wait_rest_token 𝒱₀ ER (Rd m ρ) (c : Thread nD τ) none (κ := K (c, some k))
      (wpE_waitDma2_eq 𝒱₀ (c : Thread nD τ) none Set.univ) (Set.mem_univ _) () (O := Ow c S) (W := W) (R := 0) (m := 0) (T := ∅)
      (by rw [Nat.zero_add, hN]; exact (expect_dma m ρ c hsm).symm)) $$ [Hc HO Ha]
  · isplitr; · iapply hinv; iexact HC
    isplitl [Hc]; · rw [hN]; iexact Hc
    isplitl [HO]; · iexact HO
    isplitr; · iapply ((ctx_lev m ρ K).trans (mayWait_of c (.dma sm) (ql sm) le_rfl S hl)); iexact HC
    iexact Ha
  iintro ⟨HO, Ha, -, Hp⟩
  ihave Hp := (Entails.of_eq (rest_dma m ρ c hsm)) $$ Hp
  imod (Rounds.cell_close ER (Rd m ρ) (Set.mem_univ (K (c, some k))) (fun h => h) (R := 0 + 1) (duties_later m ρ ((c : Thread nD τ), .dma sm))) $$ [Ha] with Hz
  · isplitr; · iapply hinv; iexact HC
    iexact Ha
  iapply Hk
  isplitl [HO]; · iexists _; iexact HO
  isplitl [Hz]; · unfold zeroR; rw [ho]; iexact Hz
  iexact Hp

/-- A receive wait: the band filled. -/
theorem wait_recv (t : Tr) (S R I : List Tr) (Z : List OK) {sm : DmaSem sig} (hsm : sm = rIx t) (hl : ∀ t' ∈ S, tl t < tl t')
    {sp sp' : Space} {s s' : Shape} {e e' : EltTy} {src : Memref sig .tc sp' s' e'} {κ' : Kind} {dst : Memref sig κ' sp s e} {hsrc : src.view.WordExact} {hdst : dst.view.WordExact}
    (hN : dst.view.dmaCredit = crd (len t.1 t.2)) {kk : PUnit → Prog (TpuEff nD τ sig (Elt F) Λ₀ .tc) α} :
    iprop(Ctx m ρ K ∗ Run c S (t :: R) I Z)
      ⊢ iprop((Run c S R I (some (true, t) :: Z) ∗ recvP m ρ c t
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  unfold Run
  rw [bigSepL_cons' t R]
  unfold recvR
  iintro ⟨#HC, HO, HS, ⟨⟨Hc, Ha⟩, HR⟩, HI, HZ⟩ Hk
  iapply (step_wait m ρ K c (some (true, t)) (crd (len t.1 t.2)) rfl (recvP m ρ c t) rfl S (role_r t) rfl (by rw [ql_r]; exact hl) hN) $$ [HO Hc Ha]
  · isplitr; · iexact HC
    isplitl [HO]; · iexact HO
    isplitl [Hc] <;> iassumption
  iintro ⟨HO, Hz, Hp⟩
  iapply Hk
  isplitr [Hp]
  · isplitl [HO]; · iexact HO
    isplitl [HS]; · iexact HS
    isplitl [HR]; · iexact HR
    isplitl [HI]; · iexact HI
    rw [bigSepL_cons']
    isplitl [Hz] <;> iassumption
  iexact Hp

/-- A send wait, once everything is sent: the source back. -/
theorem wait_send (t : Tr) (R I : List Tr) (Z : List OK) {sm : DmaSem sig} (hsm : sm = sIx t)
    {sp sp' : Space} {s s' : Shape} {e e' : EltTy} {src : Memref sig .tc sp' s' e'} {κ' : Kind} {dst : Memref sig κ' sp s e} {hsrc : src.view.WordExact} {hdst : dst.view.WordExact}
    (hN : dst.view.dmaCredit = crd (len t.1 t.2)) {kk : PUnit → Prog (TpuEff nD τ sig (Elt F) Λ₀ .tc) α} :
    iprop(Ctx m ρ K ∗ Run c [] R (t :: I) Z)
      ⊢ iprop((Run c [] R I (some (false, t) :: Z) ∗ srcP m ρ c t
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  subst hsm
  unfold Run
  rw [bigSepL_cons' t I]
  unfold sentR
  iintro ⟨#HC, HO, HS, HR, ⟨⟨Hc, Ha⟩, HI⟩, HZ⟩ Hk
  iapply (step_wait m ρ K c (some (false, t)) (crd (len t.1 t.2)) rfl (srcP m ρ c t) rfl [] (role_s t) rfl (fun _ h => absurd h List.not_mem_nil) hN) $$ [HO Hc Ha]
  · isplitr; · iexact HC
    isplitl [HO]; · iexact HO
    isplitl [Hc] <;> iassumption
  iintro ⟨HO, Hz, Hp⟩
  iapply Hk
  isplitr [Hp]
  · isplitl [HO]; · iexact HO
    isplitl [HS]; · iexact HS
    isplitl [HR]; · iexact HR
    isplitl [HI]; · iexact HI
    rw [bigSepL_cons']
    isplitl [Hz] <;> iassumption
  iexact Hp

/-- The copy of the own block. -/
theorem step_own {off : Fin 2 → ℕ} (hoff : off = ![own c, 0]) {inb} {sm : DmaSem sig} (hsm : sm = oIx) (fd : OBuf F)
    {hsrc : (Memref.whole cc0_stg0_0 : Memref sig .tc .vmem S1024x512 .f32).view.WordExact} {hdst : (oM 1024 off inb).view.WordExact}
    {hsem : DmaTarget.Typed (nD := nD) (τ := τ) (p := .tc) .vmem (.dma sm) (.here (oM 1024 off inb))}
    {k : PUnit → Prog (TpuEff nD τ sig (Elt F) Λ₀ .tc) α} :
    iprop(Ctx m ρ K ∗ xP c 0 1024 fullShare.right (xs m ρ c) ∗ oP c (own c) 1024 fullShare fd ∗ dutyTok ER (oC c) 0 0)
      ⊢ iprop((cred (tallyAt (oC c) () (crd 1024)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg0_0 : Memref sig .tc .vmem S1024x512 .f32) (.here (oM 1024 off inb)) (.dma sm) hsrc hdst hsem) k) Q) := by
  subst hsm
  have hset := oM_set 1024 (own c) off hoff inb
  have hx : (Memref.whole cc0_stg0_0 : Memref sig .tc .vmem S1024x512 .f32).view.set = xRows 0 1024 :=
    (View.set_whole _).trans (rows_all ![1024, 512] 1024 le_rfl).symm
  iintro ⟨#HC, Hx, Ho, Ht⟩ Hk
  iapply (Rounds.wp_copy_pointsTo 𝒱₀ ER (Rd m ρ) (c : Thread nD τ) none (κ := K (c, some none)) (r := 0) (d := 0) (fd := fd) (q := fullShare.right) (fs := xs m ρ c)
    (by rw [duties_dma m ρ c role_o]; exact Finset.mem_singleton_self _) () (crd 1024) rfl (amount_dma m ρ c role_o 0)
    (by
      rw [payload_dma m ρ c role_o]
      show _ ⊢ ownP m ρ c
      unfold ownP oP xP
      rw [hset, hx]
      exact sep_mono_left (Entails.of_eq (pointsTo_congr (land_own m ρ c hoff inb fd))))) $$ [Hx Ho Ht]
  · isplitr; · iapply (ctx_inv m ρ K (c, some none)); iexact HC
    isplitl [Hx]; · unfold xP; rw [hx]; iexact Hx
    isplitl [Ho]; · unfold oP; rw [hset]; iexact Ho
    isplitl [Ht]; · iexact Ht
    iapply (ctx_reached m ρ K (c, some none)); iexact HC
  iexact Hk

end Cert.GatherProof

end
-- ==== Proof.Mem.lean ====
/-
How the two buffers divide: the gathered array into the own half and the twenty-seven bands of the other half, a band into
the pieces that are forwarded, and the input block into the pieces sent along `y`.
-/
module

public import proofs.«01_k».proof.Proof.Ops

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over lists -/

omit [FloatOps F] in
/-- The order of a list does not matter. -/
theorem bigSepL_reorder {I : Type} {l l' : List I} (h : l.Perm l') (Φ : I → sProp 𝕄) : bigSepL l Φ = bigSepL l' Φ := by
  induction h with
  | nil => rfl
  | cons i _ ih => rw [bigSepL_cons', bigSepL_cons', ih]
  | swap i j l =>
    simp only [bigSepL_cons']
    have h (P P' P'' : sProp 𝕄) : iprop(P ∗ P' ∗ P'') ⊢ iprop(P' ∗ P ∗ P'') := by
      iintro ⟨H1, H2, H3⟩; isplitl [H2]; · iexact H2
      isplitl [H1] <;> iassumption
    exact (h _ _ _).antisymm (h _ _ _)
  | trans _ _ ih1 ih2 => exact ih1.trans ih2

omit [FloatOps F] in
theorem eq_of_entails {P P' : sProp 𝕄} (h : P ⊢ P') (h' : P' ⊢ P) : P = P' := h.antisymm h'
omit [FloatOps F] in
theorem bigSepL_three {I : Type} (i j k : I) (Φ : I → sProp 𝕄) : bigSepL [i, j, k] Φ = iprop(Φ i ∗ Φ j ∗ Φ k) := rfl
omit [FloatOps F] in
theorem bigSepL_four {I : Type} (i j k l : I) (Φ : I → sProp 𝕄) : bigSepL [i, j, k, l] Φ = iprop(Φ i ∗ Φ j ∗ Φ k ∗ Φ l) := rfl

/-! ## Points-to, divided -/

omit [FloatOps F] in
theorem pts_union {ℓ : Loc nD τ sig} {I J : Finset (Idx ℓ)} (q : PosShare TreeShare) (f : Buf (Elt F) ℓ) (h : Disjoint I J) :
    (ℓ ↦[I ∪ J]{q} f : sProp 𝕄) = iprop((ℓ ↦[I]{q} f) ∗ ℓ ↦[J]{q} f) := (pointsTo_union h).1.antisymm (pointsTo_union h).2
omit [FloatOps F] in
theorem pts_biUnion {ℓ : Loc nD τ sig} {T : Type} [Fintype T] (B : T → Finset (Idx ℓ)) (q : PosShare TreeShare) (f : Buf (Elt F) ℓ)
    (h : ∀ t t', t ≠ t' → Disjoint (B t) (B t')) :
    (ℓ ↦[Finset.univ.biUnion B]{q} f : sProp 𝕄) = bigSep Finset.univ fun t => ℓ ↦[B t]{q} f :=
  pointsTo_biUnion Finset.univ B fun t _ t' _ => h t t'
omit [FloatOps F] in
theorem pts_share {ℓ : Loc nD τ sig} (I : Finset (Idx ℓ)) (f : Buf (Elt F) ℓ) :
    (ℓ ↦[I]{fullShare} f : sProp 𝕄) = iprop((ℓ ↦[I]{fullShare.left} f) ∗ ℓ ↦[I]{fullShare.right} f) :=
  (pointsTo_share (PosShare.mem_left_op_right _)).1.antisymm (pointsTo_share (PosShare.mem_left_op_right _)).2

/-! ## Bands -/

omit [FloatOps F] in
theorem oP_add (c : Dev nD) (a n k : ℕ) (q : PosShare TreeShare) (f : OBuf F) :
    (oP c a (n + k) q f : sProp 𝕄) = iprop(oP c a n q f ∗ oP c (a + n) k q f) := by
  unfold oP; rw [show oRows a (n + k) = oRows a n ∪ oRows (a + n) k from rows_add _ a n k]
  exact pts_union (ℓ := oL c) (I := oRows a n) (J := oRows (a + n) k) q f (rows_disjoint _ a n k)

omit [FloatOps F] in
theorem oP_share (c : Dev nD) (a n : ℕ) (f : OBuf F) :
    (oP c a n fullShare f : sProp 𝕄) = iprop(oP c a n fullShare.left f ∗ oP c a n fullShare.right f) := by
  unfold oP; exact pts_share (ℓ := oL c) (oRows a n) f

theorem lo_fwd (c : Dev nD) (a : Fin 3) (j : Fin 9) (hj : j.val < 8) : lo (nb a c) a j = if a = 0 then lo (ny c) 0 j else lo c 0 j := by
  have hc := dev_lt c
  have hx := nx_val c
  have hz := nz_val c
  match a with
  | 0 => rfl
  | 1 => show lo (nx c) 1 j = lo c 0 j; simp only [lo, if_pos hj, mis, qd]; omega
  | 2 => show lo (nz c) 2 j = lo c 0 j; simp only [lo, if_pos hj, mis, qd]; omega

/-- A chunk that came along `y`, divided between the two forwards that read it. -/
theorem fwd_eq (c : Dev nD) (j : Fin 9) (hj : j.val < 8) :
    (recvP m ρ c (0, j) : sProp 𝕄) = iprop(srcP m ρ c (1, j) ∗ srcP m ρ c (2, j)) := by
  unfold recvP srcP fq
  dsimp only
  rw [if_neg (show ¬ (1 : Fin 3) = 0 by decide), if_neg (show ¬ (2 : Fin 3) = 0 by decide), if_pos hj, if_pos hj, if_pos rfl,
    if_neg (show ¬ (2 : Fin 3) = 1 by decide), lo_fwd c 1 j hj, lo_fwd c 2 j hj, if_neg (show ¬ (1 : Fin 3) = 0 by decide),
    if_neg (show ¬ (2 : Fin 3) = 0 by decide)]
  unfold len; rw [if_pos hj, if_pos hj, if_pos hj]
  exact oP_share c _ _ _

/-- What is left of four bands of the `z` quadrant, and of three of the `x` quadrant, around the piece forwarded. -/
def rest₁ (c : Dev nD) : sProp 𝕄 :=
  iprop(oP c (mis c + qd 2 c + 64) 24 fullShare (fin m ρ c) ∗ oP c (mis c + qd 2 c + 64 + 24 + 88) 16 fullShare (fin m ρ c))
def rest₂ (c : Dev nD) : sProp 𝕄 := oP c (mis c + qd 1 c + 160) 16 fullShare (fin m ρ c)

/-- Four bands, one after the other. -/
theorem four_bands (c : Dev nD) (a b : ℕ) (q : PosShare TreeShare) (f : OBuf F) :
    (oP c a (32 + 32 + 32 + 32) q f : sProp 𝕄)
      = iprop(((oP c a 32 q f ∗ oP c (a + 32) 32 q f) ∗ oP c (a + 64) 32 q f) ∗ oP c (a + 96) 32 q f) := by
  rw [oP_add, oP_add, oP_add]

theorem recvP_plain (c : Dev nD) (a : Fin 3) (j : Fin 9) (hj : j.val < 8) (b : ℕ) (hb : b = mis c + qd a c + 32 * j.val) :
    (recvP m ρ c (a, j) : sProp 𝕄) = oP c b 32 fullShare (fin m ρ c) := by
  unfold recvP lo len; dsimp only; rw [if_pos hj, if_pos hj, hb]

/-- The piece of the diagonal quadrant forwarded along `x` lies in four bands of the `z` quadrant; -/
theorem carve₁ (c : Dev nD) : bigSepL [(2, 5), (2, 4), (2, 3), (2, 2)] (recvP m ρ c) = iprop(srcP m ρ c (1, 8) ∗ rest₁ m ρ c) := by
  have hc := dev_lt c
  have hx := nx_val c
  have hs : (srcP m ρ c (1, 8) : sProp 𝕄) = oP c (mis c + qd 2 c + 64 + 24) 88 fullShare (fin m ρ c) := by
    unfold srcP fq; dsimp only; rw [if_neg (by decide), if_neg (by decide)]
    rw [show lo (nb 1 c) 1 8 = mis c + qd 2 c + 64 + 24 from by
      show lo (nx c) 1 8 = _; simp only [lo, mis, qd, qm]; rw [if_neg (by decide)]; simp; omega]
    rfl
  have h4 := (four_bands c (mis c + qd 2 c + 64) 0 fullShare (fin m ρ c)).symm.trans
    ((congrArg (fun n => oP c (mis c + qd 2 c + 64) n fullShare (fin m ρ c)) (show 32 + 32 + 32 + 32 = 24 + 88 + 16 from rfl)).trans
      ((oP_add c _ (24 + 88) 16 _ _).trans (congrArg (fun P => iprop(P ∗ oP c (mis c + qd 2 c + 64 + (24 + 88)) 16 fullShare (fin m ρ c))) (oP_add c _ 24 88 _ _))))
  rw [bigSepL_four, recvP_plain m ρ c 2 2 (by decide) (mis c + qd 2 c + 64) (by simp), recvP_plain m ρ c 2 3 (by decide) (mis c + qd 2 c + 64 + 32) (by simp),
    recvP_plain m ρ c 2 4 (by decide) (mis c + qd 2 c + 64 + 64) (by simp), recvP_plain m ρ c 2 5 (by decide) (mis c + qd 2 c + 64 + 96) (by simp), hs]
  unfold rest₁
  refine eq_of_entails ?_ ?_
  · iintro ⟨H5, H4, H3, H2⟩
    ihave H := (Entails.of_eq h4) $$ [H2 H3 H4 H5]
    · isplitr [H5]; · isplitr [H4]; · isplitl [H2] <;> iassumption
                      iexact H4
      iexact H5
    icases H with ⟨⟨Ha, Hb⟩, Hc⟩
    isplitl [Hb]; · iexact Hb
    isplitl [Ha] <;> iassumption
  · iintro ⟨Hb, Ha, Hc⟩
    ihave H := (Entails.of_eq h4.symm) $$ [Ha Hb Hc]
    · isplitr [Hc]; · isplitl [Ha] <;> iassumption
      iexact Hc
    icases H with ⟨⟨⟨H2, H3⟩, H4⟩, H5⟩
    isplitl [H5]; · iexact H5
    isplitl [H4]; · iexact H4
    isplitl [H3] <;> iassumption

/-- the piece forwarded along `z` lies in three bands of the `x` quadrant. -/
theorem carve₂ (c : Dev nD) : bigSepL [(1, 7), (1, 6), (1, 5)] (recvP m ρ c) = iprop(srcP m ρ c (2, 8) ∗ rest₂ m ρ c) := by
  have hc := dev_lt c
  have hz := nz_val c
  have hs : (srcP m ρ c (2, 8) : sProp 𝕄) = oP c (mis c + qd 1 c + 160 + 16) 80 fullShare (fin m ρ c) := by
    unfold srcP fq; dsimp only; rw [if_neg (by decide), if_neg (by decide)]
    rw [show lo (nb 2 c) 2 8 = mis c + qd 1 c + 160 + 16 from by
      show lo (nz c) 2 8 = _; simp only [lo, mis, qd, qm]; rw [if_neg (by decide)]; simp; omega]
    rfl
  have h3 := ((oP_add c (mis c + qd 1 c + 160) (32 + 32) 32 fullShare (fin m ρ c)).trans
      (congrArg (fun P => iprop(P ∗ oP c (mis c + qd 1 c + 160 + (32 + 32)) 32 fullShare (fin m ρ c))) (oP_add c _ 32 32 _ _))).symm.trans
    ((congrArg (fun n => oP c (mis c + qd 1 c + 160) n fullShare (fin m ρ c)) (show 32 + 32 + 32 = 16 + 80 from rfl)).trans (oP_add c _ 16 80 _ _))
  rw [bigSepL_three, recvP_plain m ρ c 1 5 (by decide) (mis c + qd 1 c + 160) (by simp), recvP_plain m ρ c 1 6 (by decide) (mis c + qd 1 c + 160 + 32) (by simp),
    recvP_plain m ρ c 1 7 (by decide) (mis c + qd 1 c + 160 + (32 + 32)) (by simp), hs]
  unfold rest₂
  refine eq_of_entails ?_ ?_
  · iintro ⟨H7, H6, H5⟩
    ihave H := (Entails.of_eq h3) $$ [H5 H6 H7]
    · isplitr [H7]; · isplitl [H5] <;> iassumption
      iexact H7
    icases H with ⟨Ha, Hb⟩
    isplitl [Hb] <;> iassumption
  · iintro ⟨Hb, Ha⟩
    ihave H := (Entails.of_eq h3.symm) $$ [Ha Hb]
    · isplitl [Ha] <;> iassumption
    icases H with ⟨⟨H5, H6⟩, H7⟩
    isplitl [H7]; · iexact H7
    isplitl [H6] <;> iassumption

/-! ## The whole buffers -/

/-- No row lies in two bands, -/
theorem band_disjoint (c : Dev nD) (k k' : Tr) (h : k ≠ k') :
    Disjoint (oRows (lo c k.1 k.2) (len k.1 k.2)) (oRows (lo c k'.1 k'.2) (len k'.1 k'.2)) := by
  obtain ⟨a, j⟩ := k
  obtain ⟨a', j'⟩ := k'
  have hc := dev_lt c
  have hj := j.isLt
  have hj' := j'.isLt
  have hne : a.val = a'.val → j.val ≠ j'.val := fun ha hj => h (by rw [Fin.ext ha, Fin.ext hj])
  rw [Finset.disjoint_left]
  intro i h1 h2
  rw [mem_rows] at h1 h2
  revert hne h1 h2
  generalize (i (0 : Fin 2)).val = r
  have hx : c.val / 4 = 0 ∨ c.val / 4 = 1 := by omega
  have hz : c.val % 2 = 0 ∨ c.val % 2 = 1 := by omega
  unfold lo len qm
  generalize mis c = M
  match a, a' with
  | 0, 0 | 0, 1 | 0, 2 | 1, 0 | 1, 1 | 1, 2 | 2, 0 | 2, 1 | 2, 2 =>
    dsimp only [qd]
    intro hne h1 h2
    simp at hne
    rcases hx with hx | hx <;> rcases hz with hz | hz <;> rw [hx, hz] at h1 h2 <;>
      by_cases hj8 : j.val < 8 <;> by_cases hj8' : j'.val < 8 <;>
      simp only [hj8, hj8', if_true, if_false] at h1 h2 <;> simp at h1 h2 <;> omega

/-- and every row of the other half lies in one. -/
theorem band_cover (c : Dev nD) (r : ℕ) (h : mis c ≤ r ∧ r < mis c + 1024) :
    ∃ k : Tr, lo c k.1 k.2 ≤ r ∧ r < lo c k.1 k.2 + len k.1 k.2 := by
  have hc := dev_lt c
  obtain ⟨t, rfl⟩ : ∃ t, r = mis c + t := ⟨r - mis c, by omega⟩
  have ht : t < 1024 := by omega
  clear h
  have hx : c.val / 4 = 0 ∨ c.val / 4 = 1 := by omega
  have hz : c.val % 2 = 0 ∨ c.val % 2 = 1 := by omega
  have plain (a : Fin 3) (hq : qd a c ≤ t ∧ t < qd a c + 256) : ∃ k : Tr, lo c k.1 k.2 ≤ mis c + t ∧ mis c + t < lo c k.1 k.2 + len k.1 k.2 :=
    ⟨(a, ⟨(t - qd a c) / 32, by omega⟩), by
      have h8 : (t - qd a c) / 32 < 8 := by omega
      simp only [lo, len, if_pos h8]; omega⟩
  have diag (a : Fin 3) (hq : 768 - qm c + 88 * a.val ≤ t ∧ t < 768 - qm c + 88 * a.val + len a 8) :
      ∃ k : Tr, lo c k.1 k.2 ≤ mis c + t ∧ mis c + t < lo c k.1 k.2 + len k.1 k.2 :=
    ⟨(a, 8), by
      have h8 : ¬ ((8 : Fin 9).val < 8) := by decide
      simp only [lo, if_neg h8]; omega⟩
  by_cases h0 : qd 0 c ≤ t ∧ t < qd 0 c + 256
  · exact plain 0 h0
  by_cases h1 : qd 1 c ≤ t ∧ t < qd 1 c + 256
  · exact plain 1 h1
  by_cases h2 : qd 2 c ≤ t ∧ t < qd 2 c + 256
  · exact plain 2 h2
  have l0 : len 0 8 = 88 := rfl
  have l1 : len 1 8 = 88 := rfl
  have l2 : len 2 8 = 80 := rfl
  simp only [qd] at h0 h1 h2
  by_cases h3 : t % 256 < 88
  · exact diag 0 (by rw [l0, Fin.val_zero]; unfold qm; omega)
  by_cases h4 : t % 256 < 176
  · exact diag 1 (by rw [l1]; unfold qm; simp; omega)
  · exact diag 2 (by rw [l2]; unfold qm; simp; omega)

omit [FloatOps F] in
/-- The other half is its twenty-seven bands. -/
theorem half_bands (c : Dev nD) (f : OBuf F) :
    (oP c (mis c) 1024 fullShare f : sProp 𝕄) = bigSep Finset.univ fun k : Tr => oP c (lo c k.1 k.2) (len k.1 k.2) fullShare f := by
  unfold oP
  rw [← pts_biUnion (ℓ := oL c) (fun k : Tr => oRows (lo c k.1 k.2) (len k.1 k.2)) fullShare f (band_disjoint c)]
  congr 1
  ext i
  rw [mem_rows, Finset.mem_biUnion]
  constructor
  · intro h
    obtain ⟨k, hk⟩ := band_cover c _ h
    exact ⟨k, Finset.mem_univ _, mem_rows.2 hk⟩
  · rintro ⟨k, -, hk⟩
    have hk := mem_rows.1 hk
    have hl := lo_lt c k.1 k.2
    omega

omit [FloatOps F] in
/-- The gathered array is the own half and the other half. -/
theorem out_halves (c : Dev nD) (f : OBuf F) :
    (((oL c) ↦{fullShare} f) : sProp 𝕄) = iprop(oP c (own c) 1024 fullShare f ∗ oP c (mis c) 1024 fullShare f) := by
  unfold oP
  rw [← pts_union (ℓ := oL c) (I := oRows (own c) 1024) (J := oRows (mis c) 1024) fullShare f (by
    rw [Finset.disjoint_left]; intro i h1 h2; rw [mem_rows] at h1 h2
    have hc := dev_lt c; unfold own at h1; unfold mis at h2; omega)]
  congr 1
  symm
  rw [Finset.eq_univ_iff_forall]
  intro i
  have hi : (i (0 : Fin 2)).val < 2048 := (i (0 : Fin 2)).isLt
  have hc := dev_lt c
  rw [Finset.mem_union, mem_rows, mem_rows]; unfold own mis; omega

/-- The rows sent along `y`. -/
abbrev yRows (c : Dev nD) (j : Fin 9) : Finset S1024x512.Idx := xRows (lo (ny c) 0 j - own c) (len 0 j)

/-- The part of the input block no send along `y` reads, at the sends' share. -/
def xRest (c : Dev nD) : sProp 𝕄 := (xL c) ↦[Finset.univ \ Finset.univ.biUnion (yRows c)]{fullShare.left} xs m ρ c

/-- The input block: the pieces sent along `y` and what is left at one share, all of it at the other. -/
theorem x_pieces (c : Dev nD) : (((xL c) ↦{fullShare} xs m ρ c) : sProp 𝕄)
    = iprop(((bigSep Finset.univ fun j : Fin 9 => srcP m ρ c (0, j)) ∗ xRest m ρ c) ∗ xP c 0 1024 fullShare.right (xs m ρ c)) := by
  have hd : ∀ j j' : Fin 9, j ≠ j' → Disjoint (yRows c j) (yRows c j') := by
    intro j j' hne
    have hne : j.val ≠ j'.val := fun h => hne (Fin.ext h)
    rw [Finset.disjoint_left]; intro i h1 h2; rw [mem_rows] at h1 h2
    have hc := dev_lt c
    have hm : mis (ny c) = own c := by unfold mis own; rw [ny_val]; omega
    have hq : qd 0 (ny c) = qm c := by unfold qm; dsimp only [qd]; rw [ny_val]; omega
    have hq' : qm (ny c) = qm c := by unfold qm; rw [ny_val]; omega
    have hqv : qm c = 0 ∨ qm c = 256 ∨ qm c = 512 ∨ qm c = 768 := by unfold qm; omega
    unfold lo len at h1 h2
    rw [hm, hq, hq'] at h1 h2
    simp at h1 h2
    split at h1 <;> split at h2 <;> omega
  have hs : (bigSep Finset.univ fun j : Fin 9 => srcP m ρ c (0, j)) = ((xL c) ↦[Finset.univ.biUnion (yRows c)]{fullShare.left} xs m ρ c) := by
    rw [pts_biUnion (ℓ := xL c) (yRows c) fullShare.left (xs m ρ c) hd]; exact bigSep_congr fun j _ => by unfold srcP; rw [if_pos rfl]; rfl
  rw [hs]; unfold xRest xP
  rw [show xRows 0 1024 = Finset.univ from rows_all _ _ le_rfl,
    ← pts_union (ℓ := xL c) fullShare.left (xs m ρ c) Finset.disjoint_sdiff, Finset.union_sdiff_of_subset (Finset.subset_univ _)]
  exact pts_share _ _

end Cert.GatherProof

end
-- ==== Proof.Steps.lean ====
/-
The state a device is in between two steps of its program, and one rule per kind of step over it; the offsets and devices
the program computes, as the bands and neighbours they are.
-/
module

public import proofs.«01_k».proof.Proof.Mem

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Offsets -/

section Offsets
variable (c : Dev nD)

theorem off1 (j : Fin 9) (hj : j.val < 8) : k0_off1 c (BitVec.ofNat 32 (32 * j.val)) = ![lo (ny c) 0 j, 0] := by
  rw [k0_off1_eq c ⟨j.val, hj⟩]
  have hc := dev_lt c
  congr 1
  simp only [lo, if_pos hj, mis, qd, ny_val]; omega
theorem off2 (j : Fin 9) (hj : j.val < 8) : k0_off2 c (BitVec.ofNat 32 (32 * j.val)) = ![lo (ny c) 0 j - own c, 0] := by
  rw [k0_off2_eq c ⟨j.val, hj⟩]
  have hc := dev_lt c
  congr 1
  simp only [lo, if_pos hj, mis, qd, own, ny_val]; omega
theorem off3 : k0_off3 c = ![lo (ny c) 0 8, 0] := by
  rw [k0_off3_eq c]
  have hc := dev_lt c
  congr 1
  simp only [lo, if_neg (show ¬ (8 : Fin 9).val < 8 by decide), mis, qm, ny_val, Fin.val_zero]; omega
theorem off4 : k0_off4 c = ![lo (ny c) 0 8 - own c, 0] := by
  rw [k0_off4_eq c]
  have hc := dev_lt c
  congr 1
  simp only [lo, if_neg (show ¬ (8 : Fin 9).val < 8 by decide), mis, qm, own, ny_val, Fin.val_zero]; omega
theorem off5 : k0_off5 c = ![own c, 0] := k0_off5_eq c
theorem off6 (a : Fin 3) (ha : a ≠ 0) (j : Fin 9) (hj : j.val < 8) : k0_off6 c (BitVec.ofNat 32 (32 * j.val)) = ![lo (nb a c) a j, 0] := by
  rw [k0_off6_eq c ⟨j.val, hj⟩, lo_fwd c a j hj, if_neg ha]
  have hc := dev_lt c
  congr 1
  simp only [lo, if_pos hj, mis, qd]; omega
theorem off7 : k0_off7 c = ![lo (nb 1 c) 1 8, 0] := by
  rw [k0_off7_eq c]
  have hc := dev_lt c
  have hx := nx_val c
  congr 1
  show _ = lo (nx c) 1 8
  simp only [lo, if_neg (show ¬ (8 : Fin 9).val < 8 by decide), mis, qm, show (1 : Fin 3).val = 1 from rfl]; omega
theorem off8 : k0_off8 c = ![lo (nb 2 c) 2 8, 0] := by
  rw [k0_off8_eq c]
  have hc := dev_lt c
  have hz := nz_val c
  congr 1
  show _ = lo (nz c) 2 8
  simp only [lo, if_neg (show ¬ (8 : Fin 9).val < 8 by decide), mis, qm, show (2 : Fin 3).val = 2 from rfl]; omega
end Offsets

/-! ## The order of the transfers -/

/-- The pieces sent along `y`, and those of them that are forwarded. -/
abbrev pieces : List (Fin 9) := [0, 1, 2, 3, 4, 5, 6, 7, 8]
abbrev chunks : List (Fin 9) := [0, 1, 2, 3, 4, 5, 6, 7]
/-- The forwards of a list of chunks. -/
abbrev both (js : List (Fin 9)) : List Tr := js.flatMap fun j => [(1, j), (2, j)]

/-- What comes in before the last forward along `x`, before the last along `z`, and after. -/
abbrev early₁ : List Tr := [(2, 2), (2, 3), (2, 4), (2, 5)]
abbrev early₂ : List Tr := [(1, 5), (1, 6), (1, 7)]
abbrev late : List Tr := [(0, 8), (1, 0), (2, 0), (1, 1), (2, 1), (1, 2), (1, 3), (1, 4), (2, 6), (2, 7), (1, 8), (2, 8)]

/-! ## The state between two steps -/

/-- Transfers `S` to send, `R` to receive, `I` sent and not waited for, the cells `Z` closed; and in memory: the sources of the
transfers `P`, the filled bands `B`. -/
def St (c : Dev nD) (S R I : List Tr) (Z : List OK) (P B : List Tr) : sProp 𝕄 :=
  iprop(Run c S R I Z ∗ bigSepL P (srcP m ρ c) ∗ bigSepL B (recvP m ρ c))

variable {α : Type} {Q : α → sProp (MT nD τ sig Unit (Elt F) ℕ UU ℕ)}
variable (K : Dev nD × CK → ℕ) (c : Dev nD)
variable {S R I P B : List Tr} {Z : List OK}

/-- Send along `y`. -/
theorem st_y (j : Fin 9) {n : Dev nD} (hn : n = ny c) {N : ℕ} (hN : N = len 0 j) {off off' : Fin 2 → ℕ}
    (hoff : off = ![lo (ny c) 0 j, 0]) (hoff' : off' = ![lo (ny c) 0 j - own c, 0]) {inb inb'}
    {sS sR : DmaSem sig} (hS : sS = sIx (0, j)) (hR : sR = rIx (0, j))
    {hsc : (oM N off inb : Memref sig (Dev.tc n : Thread nD τ).2.kind .vmem _ .f32).view.ref.isScScratch = false}
    {hsrc : (xM N off' inb').view.WordExact} {hdst : (oM N off inb).view.WordExact}
    {hsem : DmaTarget.Typed .vmem (.dma sR) (.remote (Dev.tc n : Thread nD τ) (oM N off inb) (.dma sS) hsc)}
    {k : PUnit → Prog (TpuEff nD τ sig (Elt F) Λ₀ .tc) α} :
    Ctx m ρ K ⊢ iprop((St m ρ c ((0, j) :: S) R I Z ((0, j) :: P) B) -∗ (St m ρ c S R ((0, j) :: I) Z P B -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xM N off' inb') (.remote (Dev.tc n : Thread nD τ) (oM N off inb) (.dma sS) hsc) (.dma sR) hsrc hdst hsem) k) Q) := by
  unfold St
  rw [bigSepL_cons' (0, j) P]
  iintro #HC ⟨HR, ⟨Hs, HP⟩, HB⟩ Hk
  iapply (send_y m ρ K c j S R I Z n hn hN hoff hoff' hS hR) $$ [HR Hs]
  · isplitr; · iexact HC
    isplitl [HR] <;> iassumption
  iintro HR
  iapply Hk
  isplitl [HR]; · iexact HR
  isplitl [HP] <;> iassumption

/-- Forward along `x` or `z`. -/
theorem st_fwd (t : Tr) (ht : t.1 ≠ 0) {n : Dev nD} (hn : n = nb t.1 c) {N : ℕ} (hN : N = len t.1 t.2) {off off' : Fin 2 → ℕ}
    (hoff : off = ![lo (nb t.1 c) t.1 t.2, 0]) (hoff' : off' = ![lo (nb t.1 c) t.1 t.2, 0]) {inb inb'}
    {sS sR : DmaSem sig} (hS : sS = sIx t) (hR : sR = rIx t)
    {hsc : (oM N off inb : Memref sig (Dev.tc n : Thread nD τ).2.kind .vmem _ .f32).view.ref.isScScratch = false}
    {hsrc : (oM N off' inb').view.WordExact} {hdst : (oM N off inb).view.WordExact}
    {hsem : DmaTarget.Typed .vmem (.dma sR) (.remote (Dev.tc n : Thread nD τ) (oM N off inb) (.dma sS) hsc)}
    {k : PUnit → Prog (TpuEff nD τ sig (Elt F) Λ₀ .tc) α} :
    Ctx m ρ K ⊢ iprop((St m ρ c (t :: S) R I Z (t :: P) B) -∗ (St m ρ c S R (t :: I) Z P B -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM N off' inb') (.remote (Dev.tc n : Thread nD τ) (oM N off inb) (.dma sS) hsc) (.dma sR) hsrc hdst hsem) k) Q) := by
  unfold St
  rw [bigSepL_cons' t P]
  iintro #HC ⟨HR, ⟨Hs, HP⟩, HB⟩ Hk
  iapply (send_fwd m ρ K c t ht S R I Z n hn hN hoff hoff' hS hR) $$ [HR Hs]
  · isplitr; · iexact HC
    isplitl [HR] <;> iassumption
  iintro HR
  iapply Hk
  isplitl [HR]; · iexact HR
  isplitl [HP] <;> iassumption

section Waits
variable {sp sp' : Space} {s s' : Shape} {e e' : EltTy} {src : Memref sig .tc sp' s' e'} {κ' : Kind} {dst : Memref sig κ' sp s e} {hsrc : src.view.WordExact} {hdst : dst.view.WordExact}
  {sm : DmaSem sig} {k : PUnit → Prog (TpuEff nD τ sig (Elt F) Λ₀ .tc) α}

/-- Wait for a transfer to come in. -/
theorem st_recv (t : Tr) (hsm : sm = rIx t) (hN : dst.view.dmaCredit = crd (len t.1 t.2)) :
    Ctx m ρ K ⊢ iprop((St m ρ c S (t :: R) I Z P B ∗ ⌜∀ t' ∈ S, tl t < tl t'⌝) -∗ (St m ρ c S R I (some (true, t) :: Z) P (t :: B) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold St
  rw [bigSepL_cons' t B]
  iintro #HC ⟨⟨HR, HP, HB⟩, %hl⟩ Hk
  iapply (wait_recv m ρ K c t S R I Z hsm hl hN) $$ [HR]
  · isplitr; · iexact HC
    iexact HR
  iintro ⟨HR, Hp⟩
  iapply Hk
  isplitl [HR]; · iexact HR
  isplitl [HP]; · iexact HP
  isplitl [Hp] <;> iassumption

/-- Wait for a chunk along `y`: it is the source of two forwards. -/
theorem st_recv_y (j : Fin 9) (hj : j.val < 8) (hsm : sm = rIx (0, j)) (hN : dst.view.dmaCredit = crd (len 0 j)) :
    Ctx m ρ K ⊢ iprop((St m ρ c S ((0, j) :: R) I Z P B ∗ ⌜∀ t' ∈ S, tl (0, j) < tl t'⌝) -∗ (St m ρ c S R I (some (true, (0, j)) :: Z) ((1, j) :: (2, j) :: P) B -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold St
  rw [bigSepL_cons' (1, j), bigSepL_cons' (2, j)]
  iintro #HC ⟨⟨HR, HP, HB⟩, %hl⟩ Hk
  iapply (wait_recv m ρ K c (0, j) S R I Z hsm hl hN) $$ [HR]
  · isplitr; · iexact HC
    iexact HR
  iintro ⟨HR, Hp⟩
  ihave Hp := (Entails.of_eq (fwd_eq m ρ c j hj)) $$ Hp
  icases Hp with ⟨H1, H2⟩
  iapply Hk
  isplitl [HR]; · iexact HR
  isplitr [HB]
  · isplitl [H1]; · iexact H1
    isplitl [H2] <;> iassumption
  iexact HB

/-- Wait for a transfer to have gone out. -/
theorem st_sent (t : Tr) (hsm : sm = sIx t) (hN : dst.view.dmaCredit = crd (len t.1 t.2)) :
    Ctx m ρ K ⊢ iprop((St m ρ c [] R (t :: I) Z P B) -∗ (St m ρ c [] R I (some (false, t) :: Z) (t :: P) B -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold St
  rw [bigSepL_cons' t P]
  iintro #HC ⟨HR, HP, HB⟩ Hk
  iapply (wait_send m ρ K c t R I Z hsm hN) $$ [HR]
  · isplitr; · iexact HC
    iexact HR
  iintro ⟨HR, Hp⟩
  iapply Hk
  isplitl [HR]; · iexact HR
  isplitr [HB]
  · isplitl [Hp] <;> iassumption
  iexact HB

/-- Wait for the copy of the own block. -/
theorem st_own (hsm : sm = oIx) (hN : dst.view.dmaCredit = crd 1024) :
    Ctx m ρ K ⊢ iprop((St m ρ c [] R I Z P B ∗ cred (tallyAt (oC c) () (crd 1024)) ∗ atPos ER (oC c) 0 ∅ 0) -∗ (St m ρ c [] R I (none :: Z) P B ∗ ownP m ρ c -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  unfold St Run
  rw [bigSepL_cons' none Z]
  iintro #HC ⟨⟨⟨HO, HS, HR, HI, HZ⟩, HP, HB⟩, Hc, Ha⟩ Hk
  iapply (step_wait m ρ K c none (crd 1024) rfl (ownP m ρ c) rfl [] role_o rfl (fun _ h => absurd h List.not_mem_nil) hN) $$ [HO Hc Ha]
  · isplitr; · iexact HC
    isplitl [HO]; · iexact HO
    isplitl [Hc] <;> iassumption
  iintro ⟨HO, Hz, Hp⟩
  iapply Hk
  isplitr [Hp]
  · isplitr [HP HB]
    · isplitl [HO]; · iexact HO
      isplitl [HS]; · iexact HS
      isplitl [HR]; · iexact HR
      isplitl [HI]; · iexact HI
      isplitl [Hz] <;> iassumption
    isplitl [HP] <;> iassumption
  iexact Hp

end Waits

/-- The source of the last forward along `x`, out of the bands it lies in; -/
theorem st_carve₁ : St m ρ c S R I Z P (early₁.reverse ++ B) ⊢ iprop(St m ρ c S R I Z ((1, 8) :: P) B ∗ rest₁ m ρ c) := by
  unfold St
  rw [bigSepL_cons' (1, 8), show early₁.reverse ++ B = [(2, 5), (2, 4), (2, 3), (2, 2)] ++ B from rfl, bigSepL_append, carve₁]
  iintro ⟨HR, HP, ⟨Hs, Hr⟩, HB⟩
  isplitr [Hr]
  · isplitl [HR]; · iexact HR
    isplitr [HB]; · isplitl [Hs] <;> iassumption
    iexact HB
  iexact Hr
/-- of the last along `z`. -/
theorem st_carve₂ : St m ρ c S R I Z P (early₂.reverse ++ B) ⊢ iprop(St m ρ c S R I Z ((2, 8) :: P) B ∗ rest₂ m ρ c) := by
  unfold St
  rw [bigSepL_cons' (2, 8), show early₂.reverse ++ B = [(1, 7), (1, 6), (1, 5)] ++ B from rfl, bigSepL_append, carve₂]
  iintro ⟨HR, HP, ⟨Hs, Hr⟩, HB⟩
  isplitr [Hr]
  · isplitl [HR]; · iexact HR
    isplitr [HB]; · isplitl [Hs] <;> iassumption
    iexact HB
  iexact Hr

/-- The state after the barrier. -/
theorem st_start : iprop(Run c S R [] [] ∗ bigSepL pieces (fun j => srcP m ρ c (0, j))) ⊢ St m ρ c S R [] [] (pieces.map (Prod.mk 0) ++ []) [] := by
  unfold St
  iintro ⟨H1, H2⟩
  isplitl [H1]; · iexact H1
  isplitl [H2]
  · rw [List.append_nil, bigSepL_map]; iexact H2
  iempintro

/-- The order of the transfers sent does not matter. -/
theorem st_reorder {I' : List Tr} (h : I.Perm I') : St m ρ c S R I Z P B ⊢ St m ρ c S R I' Z P B := by
  unfold St Run; rw [bigSepL_reorder h]

/-! ## The start and the end -/

/-- The transfers in the order they are waited for at the receiver. -/
def recvs : List Tr := chunks.map (Prod.mk 0) ++ (early₁ ++ (early₂ ++ (late ++ [])))
/-- The transfers in the order they are waited for at the sender. -/
def waits : List Tr :=
  chunks.map (Prod.mk 0) ++ chunks.map (Prod.mk 1) ++ chunks.map (Prod.mk 2) ++ [(0, 8), (1, 8), (2, 8)]

theorem recvs_nodup : recvs.Nodup := by decide
theorem recvs_univ : (Finset.univ : Finset Tr) = recvs.toFinset := by decide

/-- The chunks that came along `y`, put together again. -/
theorem unfwd (js : List (Fin 9)) (h : ∀ j ∈ js, j.val < 8) :
    iprop(bigSepL (js.map fun j => (1, j)) (srcP m ρ c) ∗ bigSepL (js.map fun j => (2, j)) (srcP m ρ c)) ⊢ bigSepL (js.map fun j => (0, j)) (recvP m ρ c) := by
  induction js with
  | nil => simp only [List.map_nil, bigSepL_nil]; iintro -; iempintro
  | cons j js ih =>
    simp only [List.map_cons]
    rw [bigSepL_cons', bigSepL_cons', bigSepL_cons', fwd_eq m ρ c j (h j List.mem_cons_self)]
    iintro ⟨⟨H1, H1s⟩, H2, H2s⟩
    isplitl [H1 H2]; · isplitl [H1] <;> iassumption
    iapply (ih fun j' hj' => h j' (List.mem_cons_of_mem _ hj'))
    isplitl [H1s] <;> iassumption

/-- The bands filled and never forwarded whole or in part. -/
def kept : List Tr := [(2, 8), (1, 8), (2, 7), (2, 6), (1, 4), (1, 3), (1, 2), (2, 1), (1, 1), (2, 0), (1, 0), (0, 8)]

/-- All sources back: the pieces of the input block, and the bands of the other half, filled. -/
theorem gather_back {P B : List Tr} :
    iprop((bigSepL P (srcP m ρ c) ∗ bigSepL B (recvP m ρ c) ∗ rest₁ m ρ c ∗ rest₂ m ρ c) ∗ ⌜P.Perm waits ∧ B.Perm kept⌝)
      ⊢ iprop((bigSep Finset.univ fun j : Fin 9 => srcP m ρ c (0, j)) ∗ oP c (mis c) 1024 fullShare (fin m ρ c)) := by
  have hb : (bigSep Finset.univ fun k : Tr => recvP m ρ c k) = bigSepL (((chunks.map fun j => (0, j)) ++ ([(2, 5), (2, 4), (2, 3), (2, 2)] ++ [(1, 7), (1, 6), (1, 5)])) ++ kept) (recvP m ρ c) :=
    bigSep_univ_eq_bigSepL _ (by decide) (by decide) _
  have hy : (bigSep Finset.univ fun j : Fin 9 => srcP m ρ c (0, j)) = bigSepL (([0, 1, 2, 3, 4, 5, 6, 7, 8] : List (Fin 9)).map fun j => ((0, j) : Tr)) (srcP m ρ c) := by
    rw [bigSepL_map]; exact bigSep_univ_eq_bigSepL _ (by decide) (by decide) _
  iintro ⟨H, %hPB⟩
  obtain ⟨hP, hB⟩ := hPB
  irevert H
  rw [show (oP c (mis c) 1024 fullShare (fin m ρ c) : sProp 𝕄) = bigSep Finset.univ fun k : Tr => recvP m ρ c k from half_bands c _, hb, hy,
    bigSepL_append, bigSepL_append, bigSepL_append, carve₁, carve₂, bigSepL_reorder hB,
    bigSepL_reorder (hP.trans (show waits.Perm ((([0, 1, 2, 3, 4, 5, 6, 7, 8] : List (Fin 9)).map fun j => ((0, j) : Tr))
      ++ ((chunks.map fun j => (1, j)) ++ (chunks.map fun j => (2, j)) ++ [(1, 8), (2, 8)])) by decide)), bigSepL_append, bigSepL_append, bigSepL_append]
  rw [show bigSepL [((1, 8) : Tr), (2, 8)] (srcP m ρ c) = iprop(srcP m ρ c (1, 8) ∗ srcP m ρ c (2, 8)) from rfl]
  iintro ⟨⟨Hy, ⟨H1, H2⟩, H18, H28⟩, HB, Hr1, Hr2⟩
  isplitl [Hy]; · iexact Hy
  isplitr [HB]
  · isplitl [H1 H2]
    · iapply (unfwd m ρ c chunks (by decide))
      isplitl [H1] <;> iassumption
    isplitl [H18 Hr1]
    · isplitl [H18] <;> iassumption
    isplitl [H28] <;> iassumption
  iexact HB

end Cert.GatherProof

end
-- ==== Proof.Phases.lean ====
/-
The phases of the body after the barrier: each a list of transfers gone through with the same steps, and one rule for the list.
-/
module

public import proofs.«01_k».proof.Proof.Steps

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A transfer, as the kernel computes its rows and its peer -/

section Views
variable (c : Dev nD)

/-- The rows of the gathered array that transfer `t` fills at its receiver. -/
def outOff (t : Tr) : Fin 2 → ℕ := match t with
  | (0, j) => if j.val < 8 then k0_off1 c (BitVec.ofNat 32 (32 * j.val)) else k0_off3 c
  | (1, j) => if j.val < 8 then k0_off6 c (BitVec.ofNat 32 (32 * j.val)) else k0_off7 c
  | (2, j) => if j.val < 8 then k0_off6 c (BitVec.ofNat 32 (32 * j.val)) else k0_off8 c
/-- The rows of the input block sent along `y`. -/
def inOff (j : Fin 9) : Fin 2 → ℕ := if j.val < 8 then k0_off2 c (BitVec.ofNat 32 (32 * j.val)) else k0_off4 c
/-- The receiver. -/
def peer (a : Fin 3) : Dev nD := match a with
  | 0 => ⟨k0_dev4 c, k0_dev4_lt c⟩
  | 1 => ⟨k0_dev13 c, k0_dev13_lt c⟩
  | 2 => ⟨k0_dev14 c, k0_dev14_lt c⟩

theorem last {j : Fin 9} (hj : ¬ j.val < 8) : j = 8 := Fin.ext (by have := j.isLt; show j.val = 8; omega)

theorem outOff_eq (t : Tr) : outOff c t = ![lo (nb t.1 c) t.1 t.2, 0] := by
  obtain ⟨a, j⟩ := t
  by_cases hj : j.val < 8
  · fin_cases a
    · exact (if_pos hj).trans (off1 c j hj)
    · exact (if_pos hj).trans (off6 c 1 (by decide) j hj)
    · exact (if_pos hj).trans (off6 c 2 (by decide) j hj)
  · obtain rfl := last hj
    fin_cases a
    · exact off3 c
    · exact off7 c
    · exact off8 c
theorem inOff_eq (j : Fin 9) : inOff c j = ![lo (ny c) 0 j - own c, 0] := by
  by_cases hj : j.val < 8
  · exact (if_pos hj).trans (off2 c j hj)
  · obtain rfl := last hj
    exact off4 c
theorem peer_eq (a : Fin 3) : peer c a = nb a c := by
  fin_cases a
  · exact Fin.ext (k0_dev4_eq c)
  · exact Fin.ext (k0_dev13_eq c)
  · exact Fin.ext (k0_dev14_eq c)

theorem outOff_inb (t : Tr) : ∀ b, outOff c t b + (⟨2, ![len t.1 t.2, 512]⟩ : Shape).size b ≤ S2048x512.size b := by
  obtain ⟨a, j⟩ := t
  by_cases hj : j.val < 8
  · have hl : len a j = 32 := if_pos hj
    show ∀ b, outOff c (a, j) b + (⟨2, ![len a j, 512]⟩ : Shape).size b ≤ _
    rw [hl]
    match a with
    | 0 => rw [show outOff c (0, j) = _ from if_pos hj]; exact k0_off1_inb c ⟨j.val, hj⟩
    | 1 => rw [show outOff c (1, j) = _ from if_pos hj]; exact k0_off6_inb c ⟨j.val, hj⟩
    | 2 => rw [show outOff c (2, j) = _ from if_pos hj]; exact k0_off6_inb c ⟨j.val, hj⟩
  · obtain rfl := last hj
    fin_cases a
    · exact k0_off3_inb c
    · exact k0_off7_inb c
    · exact k0_off8_inb c
theorem inOff_inb (j : Fin 9) : ∀ b, inOff c j b + (⟨2, ![len 0 j, 512]⟩ : Shape).size b ≤ S1024x512.size b := by
  by_cases hj : j.val < 8
  · have hl : len 0 j = 32 := if_pos hj
    rw [hl, show inOff c j = _ from if_pos hj]; exact k0_off2_inb c ⟨j.val, hj⟩
  · obtain rfl := last hj
    exact k0_off4_inb c

abbrev outM (t : Tr) := oM (len t.1 t.2) (outOff c t) (outOff_inb c t)
abbrev inM (j : Fin 9) := xM (len 0 j) (inOff c j) (inOff_inb c j)

end Views

/-! ## The steps -/

/-- What a device runs. -/
abbrev Pg (F : FTy → Type) (α : Type) : Type 1 := Prog (TpuEff nD τ sig (Elt F) Λ₀ .tc) α

section Progs
variable {α : Type} (c : Dev nD)

def sendY (j : Fin 9) (k : Pg F α) : Pg F α :=
  Prog.op (.enqueueDma (inM c j) (.remote (Dev.tc (peer c 0)) (outM c (0, j)) (.dma (sIx (0, j)))) (.dma (rIx (0, j)))
    (View.wordExact_bits rfl) (View.wordExact_bits rfl) ⟨⟨rfl, Or.inl rfl⟩, trivial⟩) fun _ => k
def sendF (t : Tr) (k : Pg F α) : Pg F α :=
  Prog.op (.enqueueDma (outM c t) (.remote (Dev.tc (peer c t.1)) (outM c t) (.dma (sIx t))) (.dma (rIx t))
    (View.wordExact_bits rfl) (View.wordExact_bits rfl) ⟨⟨rfl, Or.inl rfl⟩, trivial⟩) fun _ => k
/-- Wait for what comes in, -/
def awaitIn (t : Tr) (k : Pg F α) : Pg F α := match t.1 with
  | 0 => Prog.op (.waitDma2 (rIx t) (inM c t.2) (outM c t) (View.wordExact_bits rfl) (View.wordExact_bits rfl)) fun _ => k
  | _ => Prog.op (.waitDma2 (rIx t) (outM c t) (outM c t) (View.wordExact_bits rfl) (View.wordExact_bits rfl)) fun _ => k
/-- for what goes out. -/
def awaitOut (t : Tr) (k : Pg F α) : Pg F α := match t with
  | (0, j) => Prog.op (.waitDma2 (sIx (0, j)) (outM c (0, j)) (inM c j) (View.wordExact_bits rfl) (View.wordExact_bits rfl)) fun _ => k
  | t => Prog.op (.waitDma2 (sIx t) (outM c t) (outM c t) (View.wordExact_bits rfl) (View.wordExact_bits rfl)) fun _ => k
/-- Take a chunk from `y` and forward it both ways. -/
def relay (j : Fin 9) (k : Pg F α) : Pg F α := awaitIn c (0, j) (sendF c (1, j) (sendF c (2, j) k))
/-- Copy the own block, -/
def copyOwn (k : Pg F α) : Pg F α :=
  Prog.op (.enqueueDma (Memref.whole cc0_stg0_0 : Memref sig .tc .vmem S1024x512 .f32) (.here (oM 1024 (k0_off5 c) (k0_off5_inb c))) (.dma oIx)
    (Memref.isWhole_whole _).wordExact (View.wordExact_bits rfl) ⟨Or.inl rfl, trivial⟩) fun _ => k
/-- and wait for the copy. -/
def awaitOwn (k : Pg F α) : Pg F α :=
  Prog.op (.waitDma2 oIx (Memref.whole cc0_stg0_0 : Memref sig .tc .vmem S1024x512 .f32) (oM 1024 (k0_off5 c) (k0_off5_inb c))
    (Memref.isWhole_whole _).wordExact (View.wordExact_bits rfl)) fun _ => k

/-- Everything after the barrier. -/
def exchange : Pg F PUnit :=
  pieces.foldr (sendY c) <| copyOwn c <| chunks.foldr (relay c) <|
  early₁.foldr (awaitIn c) <| sendF c (1, 8) <| early₂.foldr (awaitIn c) <| sendF c (2, 8) <|
  late.foldr (awaitIn c) <| awaitOwn c <| waits.foldr (awaitOut c) <| Prog.ret ⟨⟩

end Progs

/-! ## One rule for each list -/

section Rules
variable (m : (ℓ : Loc nD τ sig) → Buf (Elt F) ℓ) (ρ : Dev nD → PrngReg)
variable {α : Type} {Q : α → sProp (MT nD τ sig Unit (Elt F) ℕ UU ℕ)}
variable (K : Dev nD × CK → ℕ) (c : Dev nD)
variable {S R I P B : List Tr} {Z : List OK} (k : Pg F α)

abbrev go (p : Pg F α) (Q : α → sProp (MT nD τ sig Unit (Elt F) ℕ UU ℕ)) : sProp 𝕄 :=
  wp frame (wpE (defs₀ (F := F)) 𝒱₀ (c : Thread nD τ) none) Set.univ p Q

theorem awaitIn_rule (t : Tr) :
    Ctx m ρ K ⊢ iprop((St m ρ c S (t :: R) I Z P B ∗ ⌜∀ t' ∈ S, tl t < tl t'⌝) -∗ (St m ρ c S R I (some (true, t) :: Z) P (t :: B) -∗ go c k Q)
      -∗ go c (awaitIn c t k) Q) := by
  obtain ⟨a, j⟩ := t
  match a with
  | 0 => exact st_recv m ρ K c (0, j) (dst := (outM c (0, j) : Memref sig .tc _ _ _)) (k := fun _ => k) rfl rfl
  | 1 => exact st_recv m ρ K c (1, j) (dst := (outM c (1, j) : Memref sig .tc _ _ _)) (k := fun _ => k) rfl rfl
  | 2 => exact st_recv m ρ K c (2, j) (dst := (outM c (2, j) : Memref sig .tc _ _ _)) (k := fun _ => k) rfl rfl

theorem awaitOut_rule (t : Tr) :
    Ctx m ρ K ⊢ iprop(St m ρ c [] R (t :: I) Z P B -∗ (St m ρ c [] R I (some (false, t) :: Z) (t :: P) B -∗ go c k Q)
      -∗ go c (awaitOut c t k) Q) := by
  obtain ⟨a, j⟩ := t
  match a with
  | 0 => exact st_sent m ρ K c (0, j) (dst := (inM c j : Memref sig .tc _ _ _)) (k := fun _ => k) rfl rfl
  | 1 => exact st_sent m ρ K c (1, j) (dst := (outM c (1, j) : Memref sig .tc _ _ _)) (k := fun _ => k) rfl rfl
  | 2 => exact st_sent m ρ K c (2, j) (dst := (outM c (2, j) : Memref sig .tc _ _ _)) (k := fun _ => k) rfl rfl

theorem sendF_rule (t : Tr) (ht : t.1 ≠ 0) :
    Ctx m ρ K ⊢ iprop(St m ρ c (t :: S) R I Z (t :: P) B -∗ (St m ρ c S R (t :: I) Z P B -∗ go c k Q) -∗ go c (sendF c t k) Q) :=
  st_fwd m ρ K c t ht (peer_eq c t.1) rfl (outOff_eq c t) (outOff_eq c t) rfl rfl (k := fun _ => k)

theorem one_ne : (1 : Fin 3) ≠ 0 := by decide
theorem two_ne : (2 : Fin 3) ≠ 0 := by decide

theorem relay_rule (j : Fin 9) (hj : j.val < 8) :
    Ctx m ρ K ⊢ iprop((St m ρ c ((1, j) :: (2, j) :: S) ((0, j) :: R) I Z P B ∗ ⌜∀ t ∈ S, t.1 ≠ 0⌝)
      -∗ (St m ρ c S R ((2, j) :: (1, j) :: I) (some (true, (0, j)) :: Z) P B -∗ go c k Q) -∗ go c (relay c j k) Q) := by
  have low (t : Tr) (ht : t.1 ≠ 0) : tl (0, j) < tl t := by
    rw [show tl (0, j) = 2 from rfl]; unfold tl; rw [if_neg ht]; split <;> omega
  iintro #HC ⟨H, %hS⟩ Hk
  iapply (st_recv_y m ρ K c j hj rfl rfl) $$ HC [H]
  · isplitl [H]; · iexact H
    ipureintro
    intro t ht
    rcases List.mem_cons.mp ht with rfl | ht
    · exact low _ (show (_ : Fin 3) ≠ 0 from one_ne)
    rcases List.mem_cons.mp ht with rfl | ht
    · exact low _ (show (_ : Fin 3) ≠ 0 from two_ne)
    · exact low _ (hS t ht)
  iintro H
  iapply (sendF_rule m ρ K c _ (1, j) one_ne) $$ HC H; iintro H
  iapply (sendF_rule m ρ K c _ (2, j) two_ne) $$ HC H; iintro H
  iapply Hk; iexact H

theorem sendYs_rule (js : List (Fin 9)) :
    Ctx m ρ K ⊢ iprop(St m ρ c (js.map (Prod.mk 0) ++ S) R I Z (js.map (Prod.mk 0) ++ P) B
      -∗ (St m ρ c S R ((js.map (Prod.mk 0)).reverse ++ I) Z P B -∗ go c k Q) -∗ go c (js.foldr (sendY c) k) Q) := by
  induction js generalizing I with
  | nil => iintro - H Hk; iapply Hk; iexact H
  | cons j js ih =>
    rw [List.map_cons, List.cons_append, List.cons_append]
    iintro #HC H Hk
    iapply (st_y m ρ K c j (peer_eq c 0) rfl (outOff_eq c (0, j)) (inOff_eq c j) rfl rfl) $$ HC H; iintro H
    iapply ih $$ HC H; iintro H
    iapply Hk
    rw [List.reverse_cons, List.append_assoc]; iexact H

theorem relays_rule (js : List (Fin 9)) (hjs : ∀ j ∈ js, j.val < 8) :
    Ctx m ρ K ⊢ iprop((St m ρ c (both js ++ S) (js.map (Prod.mk 0) ++ R) I Z P B ∗ ⌜∀ t ∈ S, t.1 ≠ 0⌝)
      -∗ (St m ρ c S R ((both js).reverse ++ I) ((js.map fun j => some (true, (0, j))).reverse ++ Z) P B -∗ go c k Q)
      -∗ go c (js.foldr (relay c) k) Q) := by
  induction js generalizing I Z with
  | nil => iintro - ⟨H, -⟩ Hk; iapply Hk; iexact H
  | cons j js ih =>
    have hb : ∀ t ∈ both js, t.1 ≠ 0 := fun t ht => by
      obtain ⟨j', -, h⟩ := List.mem_flatMap.mp ht
      rcases List.mem_cons.mp h with rfl | h
      · exact one_ne
      · rw [List.mem_singleton.mp h]; exact two_ne
    iintro #HC ⟨H, %hS⟩ Hk
    iapply (relay_rule m ρ K c _ j (hjs j List.mem_cons_self) (S := both js ++ S) (R := js.map (Prod.mk 0) ++ R)) $$ HC [H]
    · isplitl [H]; · iexact H
      ipureintro
      exact fun t ht => (List.mem_append.mp ht).elim (hb t) (hS t)
    iintro H
    iapply (ih fun j' hj' => hjs j' (List.mem_cons_of_mem _ hj')) $$ HC [H]
    · isplitl [H]; · iexact H
      ipureintro; exact hS
    iintro H
    iapply Hk
    rw [List.map_cons, List.reverse_cons, show both (j :: js) = [(1, j), (2, j)] ++ both js from rfl, List.reverse_append, List.append_assoc, List.append_assoc]
    iexact H

theorem awaitIns_rule (ts : List Tr) :
    Ctx m ρ K ⊢ iprop((St m ρ c S (ts ++ R) I Z P B ∗ ⌜∀ t ∈ ts, ∀ t' ∈ S, tl t < tl t'⌝)
      -∗ (St m ρ c S R I ((ts.map fun t => some (true, t)).reverse ++ Z) P (ts.reverse ++ B) -∗ go c k Q) -∗ go c (ts.foldr (awaitIn c) k) Q) := by
  induction ts generalizing Z B with
  | nil => iintro - ⟨H, -⟩ Hk; iapply Hk; iexact H
  | cons t ts ih =>
    iintro #HC ⟨H, %hl⟩ Hk
    iapply (awaitIn_rule m ρ K c _ t (R := ts ++ R)) $$ HC [H]
    · isplitl [H]; · iexact H
      ipureintro; exact hl t List.mem_cons_self
    iintro H
    iapply ih $$ HC [H]
    · isplitl [H]; · iexact H
      ipureintro; exact fun t' ht' => hl t' (List.mem_cons_of_mem _ ht')
    iintro H
    iapply Hk
    rw [List.map_cons, List.reverse_cons, List.reverse_cons, List.append_assoc, List.append_assoc]; iexact H

theorem awaitOuts_rule (ts : List Tr) :
    Ctx m ρ K ⊢ iprop(St m ρ c [] R (ts ++ I) Z P B
      -∗ (St m ρ c [] R I ((ts.map fun t => some (false, t)).reverse ++ Z) (ts.reverse ++ P) B -∗ go c k Q) -∗ go c (ts.foldr (awaitOut c) k) Q) := by
  induction ts generalizing Z P with
  | nil => iintro - H Hk; iapply Hk; iexact H
  | cons t ts ih =>
    rw [List.cons_append]
    iintro #HC H Hk
    iapply (awaitOut_rule m ρ K c _ t (I := ts ++ I)) $$ HC H; iintro H
    iapply ih $$ HC H; iintro H
    iapply Hk
    rw [List.map_cons, List.reverse_cons, List.reverse_cons, List.append_assoc, List.append_assoc]; iexact H

end Rules

end Cert.GatherProof

end
-- ==== Proof.Body.lean ====
/-
The body of the kernel, stepped through from what a device holds at the start to what it holds at the end.
-/
module

public import proofs.«01_k».proof.Proof.Phases

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Start and end -/

/-- A device's positions, and the tokens of the duties it pays. -/
def ghost (c : Dev nD) : sProp 𝕄 :=
  iprop(atPos ER (barC c) 0 ∅ 0 ∗ atPos ER (oC c) 0 ∅ 0 ∗ dutyTok ER (oC c) 0 0 ∗ (bigSep Finset.univ fun a : Fin 3 => dutyTok ER (barC (nb a c)) 0 a)
    ∗ (bigSep Finset.univ fun k : Tr => sendR c k) ∗ bigSep Finset.univ fun k : Tr => atPos ER (rC c k) 0 ∅ 0)

/-- The credits the launch deals it. -/
def creds (c : Dev nD) : sProp 𝕄 :=
  iprop(cred (tallyAt (barC c) () 3) ∗ bigSep Finset.univ fun k : Tr => cred (tallyAt (rC c k) () (crd (len k.1 k.2))))

def start (c : Dev nD) : sProp 𝕄 := iprop((∃ K, records m ρ K ∗ ghost c) ∗ creds c ∗ levAts L lv)

/-- At the end: every cell closed. -/
def closed (c : Dev nD) : sProp 𝕄 := iprop(semVal (barC c) 0 ∗ bigSep Finset.univ fun k : OK => zeroR c k)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => fin m ρ c
  Φ t := match t with
    | ⟨0, _⟩ => start m ρ c
    | ⟨_ + 1, _⟩ => closed c
  q _ := fullShare
  owed t := match t with
    | ⟨0, _⟩ => O₀ c
    | ⟨_ + 1, _⟩ => 0

/-- The cells in the order they close, last first. -/
def zeros : List OK :=
  (waits.reverse.map fun t => some (false, t)) ++ none :: (recvs.reverse.map fun t => some (true, t))

theorem zeros_nodup : zeros.Nodup := by decide
theorem zeros_univ : (Finset.univ : Finset OK) = zeros.toFinset := by decide

omit [FloatOps F] in
/-- The other half of the gathered array, whatever it holds, as the bands each neighbour fills. -/
theorem bands_start (c : Dev nD) (f : OBuf F) : (oP c (mis c) 1024 fullShare f : sProp 𝕄) ⊢ iprop(bands c 0 ∗ bands c 1 ∗ bands c 2) := by
  rw [half_bands, bigSep_univ_prod, show iprop(bands c 0 ∗ bands c 1 ∗ bands c 2) = (bigSep Finset.univ fun a : Fin 3 => (bands c a : sProp 𝕄)) from
    (bigSep_univ_eq_bigSepL [0, 1, 2] (by decide) (by decide) _).symm]
  refine bigSep_mono fun a _ => bigSep_mono fun j _ => ?_
  show oP c (lo c a j) (len a j) fullShare f ⊢ iprop(∃ f, oP c (lo c a j) (len a j) fullShare f)
  iintro H; iexists f; iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Dev nD × CK → ℕ) (c : Dev nD)

def bodyPre : sProp 𝕄 :=
  iprop((Ctx m ρ K ∗ ghost c ∗ creds c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost : sProp 𝕄 :=
  iprop(closed c ∗ (dats m ρ 0 c).owesAt () t0_0.succ ∗ stg c cc0_stg0_0 (xs m ρ c) ∗ stg c cc0_stg1_0 (fin m ρ c))

theorem fetch_x (t : Fin cfg0.N) : (cfg0.win (0 : Fin 2)).fetch t = true := by rw [fin_N0 t]; rfl

set_option maxRecDepth 65536 in
set_option maxHeartbeats 4000000 in
/-- The body is three signals, a wait, and the exchange. -/
theorem body_eq :
    cc0_body (F := F) (Memref.whole cc0_stg0_0) (Memref.isWhole_whole _) (Memref.whole cc0_stg1_0) (Memref.isWhole_whole _)
        cc0_scratch0 cc0_scratch1 cc0_scratch2 cc0_scratch3 cc0_scratch4 cc0_scratch5 cc0_scratch6
      = (do
        let c ← Prog.lift .deviceId
        semSignalWord (⟨k0_dev1 c, k0_dev1_lt c⟩ : Dev nD) barS 1#32
        semSignalWord (⟨k0_dev2 c, k0_dev2_lt c⟩ : Dev nD) barS 1#32
        semSignalWord (⟨k0_dev3 c, k0_dev3_lt c⟩ : Dev nD) barS 1#32
        semWaitWord barS 3#32
        exchange c) := by
  simp only [cc0_body_eq_skeleton]; unfold cc0_body_skel
  simp only [k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel,
    semSignalWord, semWaitWord, Prog.lift, Prog.bind_op, Prog.bind_ret, Prog.pure_eq_ret]
  rfl

set_option maxHeartbeats 4000000 in
/-- The body, one rule per phase in program order. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1 cc0_scratch2 cc0_scratch3 cc0_scratch4 cc0_scratch5 cc0_scratch6) Kt := by
  rw [body_eq]
  unfold bodyPre ghost creds
  rw [show (bigSep Finset.univ fun a : Fin 3 => (dutyTok ER (barC (nb a c)) 0 a : sProp 𝕄))
    = iprop(dutyTok ER (barC (nb 0 c)) 0 0 ∗ dutyTok ER (barC (nb 1 c)) 0 1 ∗ dutyTok ER (barC (nb 2 c)) 0 2) from bigSep_univ_eq_bigSepL [0, 1, 2] (by decide) (by decide) _]
  iintro ⟨⟨⟨#HC, ⟨HaB, HaO, HtO, ⟨Ht0, Ht1, Ht2⟩, HS, HaR⟩, HcB, HcR⟩, Ho, ⟨%d0, %g0, %hg0, Hx⟩, ⟨%d1, %g1, %hg1, Hout⟩⟩, Hk⟩
  have hx : g0 = xs m ρ c := by rw [hg0]; unfold Dat.before; rw [if_pos (fetch_x t0_0)]; rfl
  subst hx
  unfold Dat.owesAt Pipeline.owesWithin
  icases Ho with ⟨%W, %hW, HO⟩
  rw [show (dats m ρ 0 c).owed t0_0.castSucc = O₁ c + tallyAt (barC (nb 0 c)) () 1 from rfl]
  -- the buffers, in pieces
  ihave Hout := (Entails.of_eq (out_halves c g1)) $$ Hout
  icases Hout with ⟨Hown, Hmis⟩
  ihave Hmis := (bands_start c g1) $$ Hmis
  icases Hmis with ⟨Hb0, Hb1, Hb2⟩
  ihave Hx := (Entails.of_eq (x_pieces m ρ c)) $$ Hx
  icases Hx with ⟨⟨Hxp, Hxrest⟩, Hxr⟩
  ihave Hxp := (Entails.of_eq (bigSep_univ_eq_bigSepL pieces (by decide) (by decide) _)) $$ Hxp
  ihave HR := (Entails.of_eq (bigSep_sep' Finset.univ (fun k : Tr => (cred (tallyAt (rC c k) () (crd (len k.1 k.2))) : sProp 𝕄)) (fun k => atPos ER (rC c k) 0 ∅ 0)).symm) $$ [HcR HaR]
  · isplitl [HcR] <;> iassumption
  -- the three signals and the wait for the neighbours
  simp only [semSignalWord, semWaitWord, Prog.lift, Prog.bind_op, Prog.bind_ret, wp_deviceId]
  iapply (step_signal m ρ K c 0 _ (Fin.ext (k0_dev1_eq c)) _ rfl (O₁ c)) $$ [HO Ht0 Hb0]
  · isplitr; · iexact HC
    isplitl [HO]; · iexists W; iexact HO
    isplitl [Ht0] <;> iassumption
  iintro HO
  rw [show O₁ c = O₂ c + tallyAt (barC (nb 1 c)) () 1 from rfl]
  iapply (step_signal m ρ K c 1 _ (Fin.ext (k0_dev2_eq c)) _ rfl (O₂ c)) $$ [HO Ht1 Hb1]
  · isplitr; · iexact HC
    isplitl [HO]; · iexact HO
    isplitl [Ht1] <;> iassumption
  iintro HO
  rw [show O₂ c = Ow c sends + tallyAt (barC (nb 2 c)) () 1 from rfl]
  iapply (step_signal m ρ K c 2 _ (Fin.ext (k0_dev3_eq c)) _ rfl (Ow c sends)) $$ [HO Ht2 Hb2]
  · isplitr; · iexact HC
    isplitl [HO]; · iexact HO
    isplitl [Ht2] <;> iassumption
  iintro HO
  iapply (step_barrier m ρ K c recvs recvs_univ recvs_nodup _ rfl) $$ [HO HcB HaB HS HR]
  · isplitr; · iexact HC
    isplitl [HO]; · iexact HO
    isplitl [HcB]; · iexact HcB
    isplitl [HaB]; · iexact HaB
    isplitl [HS]; · iexact HS
    unfold recvR; iexact HR
  iintro ⟨HR, HzB⟩
  rw [show sends = pieces.map (Prod.mk 0) ++ (both chunks ++ [(1, 8), (2, 8)]) from rfl, show recvs = chunks.map (Prod.mk 0) ++ (early₁ ++ (early₂ ++ (late ++ []))) from rfl]
  ihave H := (st_start m ρ c) $$ [HR Hxp]
  · isplitl [HR] <;> iassumption
  unfold exchange
  -- the sends along `y`, and the copy of the own block
  iapply (sendYs_rule m ρ K c _ pieces (S := both chunks ++ [(1, 8), (2, 8)]) (P := [])) $$ HC H; iintro H
  iapply (step_own m ρ K c (off5 c) rfl g1) $$ [Hxr Hown HtO]
  · isplitr; · iexact HC
    isplitl [Hxr]; · iexact Hxr
    isplitl [Hown] <;> iassumption
  iintro HcO
  -- each chunk from `y` is forwarded along `x` and `z`
  iapply (relays_rule m ρ K c _ chunks (by decide) (S := [(1, 8), (2, 8)]) (R := early₁ ++ (early₂ ++ (late ++ [])))) $$ HC [H]
  · isplitl [H]; · iexact H
    ipureintro; decide
  iintro H
  -- the pieces of the diagonal quadrant
  iapply (awaitIns_rule m ρ K c _ early₁ (R := early₂ ++ (late ++ []))) $$ HC [H]
  · isplitl [H]; · iexact H
    ipureintro; decide
  iintro H
  ihave H := (st_carve₁ m ρ c (B := [])) $$ H
  icases H with ⟨H, Hr1⟩
  iapply (sendF_rule m ρ K c _ (1, 8) one_ne) $$ HC H; iintro H
  iapply (awaitIns_rule m ρ K c _ early₂ (R := late ++ [])) $$ HC [H]
  · isplitl [H]; · iexact H
    ipureintro; decide
  iintro H
  ihave H := (st_carve₂ m ρ c (B := [])) $$ H
  icases H with ⟨H, Hr2⟩
  iapply (sendF_rule m ρ K c _ (2, 8) two_ne) $$ HC H; iintro H
  -- the remaining receive waits, the own copy, and the send waits
  iapply (awaitIns_rule m ρ K c _ late (R := [])) $$ HC [H]
  · isplitl [H]; · iexact H
    ipureintro; decide
  iintro H
  iapply (st_own m ρ K c rfl rfl) $$ HC [H HcO HaO]
  · isplitl [H]; · iexact H
    isplitl [HcO] <;> iassumption
  iintro ⟨H, HownP⟩
  ihave H := (st_reorder m ρ c (I' := waits ++ []) (by decide)) $$ H
  iapply (awaitOuts_rule m ρ K c _ waits (I := [])) $$ HC H; iintro H
  unfold go; rw [wp_ret]; imodintro
  iapply Hk
  -- everything back in place
  unfold St Run
  icases H with ⟨⟨HO, -, -, -, HZ⟩, HP, HB⟩
  icases HO with ⟨%W', HO⟩
  unfold ownP
  icases HownP with ⟨Hown, Hxr⟩
  ihave Hm := (gather_back m ρ c) $$ [HP HB Hr1 Hr2]
  · isplitl
    · isplitl [HP]; · iexact HP
      isplitl [HB]; · iexact HB
      isplitl [Hr1] <;> iassumption
    ipureintro; decide
  icases Hm with ⟨Hxp, Hmis⟩
  unfold bodyPost closed Dat.owesAt Pipeline.owesWithin
  rw [show (dats m ρ 0 c).owed t0_0.succ = 0 from rfl]
  isplitl [HzB HZ]
  · isplitl [HzB]; · iexact HzB
    rw [bigSep_univ_eq_bigSepL zeros zeros_univ zeros_nodup]; iexact HZ
  isplitl [HO]
  · iexists W'
    isplitr; · ipureintro; exact fun _ _ => Or.inl trivial
    iexact HO
  isplitl [Hxp Hxrest Hxr]
  · iexists _; isplitr; · (ipureintro; rfl)
    iapply (Entails.of_eq (x_pieces m ρ c).symm)
    isplitr [Hxr]; · isplitl [Hxp] <;> iassumption
    iexact Hxr
  iexists _; isplitr; · (ipureintro; rfl)
  iapply (Entails.of_eq (out_halves c (fin m ρ c)).symm)
  isplitl [Hown] <;> iassumption

end Cert.GatherProof

end
-- ==== Proof.Launch.lean ====
/-
The launch: the body's obligation, the cells and tokens minted and dealt to the devices that use them, the credits, and
the run of the whole program on all eight devices.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.GatherProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

omit [FloatOps F] in
theorem owns_stage (c : Dev nD) (b : Ref sig .tc) (q : PosShare TreeShare) (X : b.ty.Contents (Elt F)) :
    (owns (Ix := Unit) (Name := ℕ) (U := UU) (Lvl := ℕ) (c : Thread nD τ) (Memref.whole b) q X : sProp 𝕄)
      = iprop(∃ f : Buf (Elt F) ((c : Thread nD τ).loc b), ⌜f = X⌝ ∗ (((c : Thread nD τ).loc b) ↦{q} f)) := by
  unfold owns; simp only [Memref.view_whole, View.read_whole, View.set_whole]

/-- What the launch hands the body, before the names of the invariants are opened. -/
def given (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

set_option maxRecDepth 20000 in
set_option maxHeartbeats 2000000 in
theorem body_obligation (c : Dev nD) : BodyObligation (dats (F := F) m ρ 0 c) (defs₀ (F := F)) 𝒱₀ () Set.univ := fun t => by
  rw [fin_N0 t]
  rw [bigSep_W0, bigSep_W0]
  simp only [owns_stage]
  show given m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1 cc0_scratch2 cc0_scratch3 cc0_scratch4 cc0_scratch5 cc0_scratch6) (fun _ => bodyPost m ρ c)
  unfold given start
  iintro ⟨⟨⟨%K, HR, Hg⟩, Hc, HL⟩, Hrest⟩
  iapply (sound_body m ρ K c fun _ => bodyPost m ρ c)
  isplitl
  · unfold bodyPre Ctx
    isplitl [HR Hg Hc HL]
    · isplitl [HR HL]
      · isplitl [HR] <;> iassumption
      isplitl [Hg] <;> iassumption
    iexact Hrest
  · iintro H; iexact H

/-! ## Cells and tokens -/

theorem role_osem (k : OK) : ∃ q, osem k = .dma q ∧ role q = some k := by
  rcases k with _ | ⟨_ | _, k⟩
  · exact ⟨_, rfl, role_o⟩
  · exact ⟨_, rfl, role_s k⟩
  · exact ⟨_, rfl, role_r k⟩

theorem osem_injective : Function.Injective osem := fun k k' h => by
  obtain ⟨q, e, r⟩ := role_osem k
  obtain ⟨q', e', r'⟩ := role_osem k'
  rw [e, e'] at h
  injection h with h
  subst h
  exact Option.some.inj (r.symm.trans r')

theorem csem_injective : Function.Injective csem := fun k k' h => by
  rcases k with _ | k <;> rcases k' with _ | k'
  · rfl
  · obtain ⟨q, e, -⟩ := role_osem k'; exact absurd (h.trans e) (fun h => by cases h)
  · obtain ⟨q, e, -⟩ := role_osem k; exact absurd (e.symm.trans h) (fun h => by cases h)
  · exact congrArg some (osem_injective h)

theorem ownSemFacts : Pipeline.OwnSemFacts cfg0.spec osem where
  isScoped := by decide
  inj := osem_injective
  disj := fun k w s h => by
    obtain ⟨q, e, r⟩ := role_osem k
    rw [e] at h
    injection h with h
    have hn : role ((cfg0.spec w).sem s) = none := by fin_cases w <;> fin_cases s <;> rfl
    rw [← h, r] at hn
    cases hn

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def cellSet : Finset (GSem nD τ sig) := Finset.univ.map ⟨kcell, kcell_injective⟩

/-- Three tokens are minted for every cell, though a DMA cell uses one. -/
abbrev tokOf (x : (Dev nD × CK) × Fin 3) : GSem nD τ sig × ℕ × Fin 3 := (kcell x.1, 0, x.2)
theorem tokOf_injective : Function.Injective tokOf := fun x y h =>
  Prod.ext (kcell_injective (congrArg (·.1) h)) (congrArg (·.2.2) h)
def tokSet : Finset (GSem nD τ sig × ℕ × Fin 3) := Finset.univ.map ⟨tokOf, tokOf_injective⟩

def u₀ : UU :=
  (initOf (Pipeline.cells cfgs cellOf_inj) (Pipeline.launchToks cfgs cellOf_inj), initOf cellSet tokSet)

omit [FloatOps F] in
theorem bigSep_option {I : Type} [Fintype I] [DecidableEq I] (Φ : Option I → sProp 𝕄) :
    bigSep Finset.univ Φ = iprop(Φ none ∗ bigSep Finset.univ fun i => Φ (some i)) := by
  rw [bigSep_univ_at _ none, show (Finset.univ.erase none : Finset (Option I)) = Finset.univ.map ⟨some, Option.some_injective I⟩ from by
    ext x; cases x <;> simp, bigSep_map]
  rfl

omit [FloatOps F] in
/-- Over the own cells: the copy's, the sends', the receives'. -/
theorem over_own (Φ : OK → sProp 𝕄) : bigSep Finset.univ Φ
    = iprop(Φ none ∗ (bigSep Finset.univ fun k : Tr => Φ (some (false, k))) ∗ bigSep Finset.univ fun k : Tr => Φ (some (true, k))) := by
  rw [bigSep_option, bigSep_univ_prod]
  congr 1
  exact bigSep_univ_eq_bigSepL [false, true] (by decide) (by decide) _

/-- What the launch's minting gives device `c`. -/
def toks (c : Dev nD) : sProp 𝕄 :=
  bigSep Finset.univ fun k : CK => bigSep Finset.univ fun d : Fin 3 => dutyTok ER (kcell (c, k)) 0 d
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)

/-- What the devices make of it together. -/
def G' (c : Dev nD) : sProp 𝕄 := iprop(∃ K, records m ρ K ∗ ghost c)

omit [FloatOps F] in
theorem mint : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : CK => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet toks; rw [bigSep_map, bigSep_univ_prod, bigSep_univ_prod]; rfl
  iintro HX
  imod (Rounds.fund ER (Rd m ρ) cellSet tokSet) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one that outlives the launch. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hos Hus Hst] with Hinv
  · isplitl [Hos Hus]
    · rw [bigSep_option, show semVal (kcell (c, none)) 0 = (unscopedSems0 c : sProp 𝕄) from (unscopedSems0_eq c).symm]
      isplitl [Hus]; · iexact Hus
      unfold Pipeline.ownSems0; iexact Hos
    iexact Hst
  imodintro
  isplitl [Hinv]; · iexact Hinv
  isplitl [Hat]; · iexact Hat
  iexact Htok

omit [FloatOps F] in
/-- A family indexed by device and item, each item dealt to the neighbour in its own direction. -/
theorem deal {A : Type} [Fintype A] [DecidableEq A] (dir : A → Fin 3) (Φ : Dev nD → A → sProp 𝕄) :
    (bigSep Finset.univ fun c => bigSep Finset.univ fun a => Φ c a) = bigSep Finset.univ fun c => bigSep Finset.univ fun a => Φ (nb (dir a) c) a := by
  rw [← bigSep_univ_prod fun p : Dev nD × A => Φ p.1 p.2, ← bigSep_univ_prod fun p : Dev nD × A => Φ (nb (dir p.2) p.1) p.2]
  exact bigSep_univ_equiv (⟨fun p => (nb (dir p.2) p.1, p.2), fun p => (nb (dir p.2) p.1, p.2),
    fun p => by simp only [nb_nb], fun p => by simp only [nb_nb]⟩ : (Dev nD × A) ≃ (Dev nD × A)) _

/-- A device's own cells' tokens, only those used. -/
def ownToks (c : Dev nD) : sProp 𝕄 :=
  iprop((bigSep Finset.univ fun a : Fin 3 => dutyTok ER (barC c) 0 a) ∗ dutyTok ER (oC c) 0 0
    ∗ (bigSep Finset.univ fun k : Tr => dutyTok ER (sC c k) 0 0) ∗ bigSep Finset.univ fun k : Tr => dutyTok ER (rC c k) 0 0)

/-- The tokens of the duties a device pays. -/
def payToks (c : Dev nD) : sProp 𝕄 :=
  iprop((bigSep Finset.univ fun a : Fin 3 => dutyTok ER (barC (nb a c)) 0 a) ∗ dutyTok ER (oC c) 0 0
    ∗ (bigSep Finset.univ fun k : Tr => dutyTok ER (sC c k) 0 0) ∗ bigSep Finset.univ fun k : Tr => dutyTok ER (rC (nb k.1 c) k) 0 0)

omit [FloatOps F] in
theorem toks_used (c : Dev nD) : (toks c : sProp 𝕄) ⊢ ownToks c := by
  unfold toks ownToks
  rw [bigSep_option, over_own]
  refine sep_mono .rfl (sep_mono (bigSep_elim (Finset.mem_univ (0 : Fin 3))) (sep_mono ?_ ?_)) <;>
    exact bigSep_mono fun k _ => bigSep_elim (Finset.mem_univ (0 : Fin 3))

omit [FloatOps F] in
theorem toks_dealt : (bigSep Finset.univ fun c : Dev nD => (ownToks c : sProp 𝕄)) = bigSep Finset.univ fun c : Dev nD => payToks c := by
  unfold ownToks payToks
  simp only [bigSep_sep']
  rw [deal (fun a => a) (fun c a => (dutyTok ER (barC c) 0 a : sProp 𝕄)), deal (fun k : Tr => k.1) (fun c k => (dutyTok ER (rC c k) 0 0 : sProp 𝕄))]

omit [FloatOps F] in
/-- Its positions and these tokens are what a device starts with. -/
theorem ghost_intro (c : Dev nD) : iprop((bigSep Finset.univ fun k : CK => atPos ER (kcell (c, k)) 0 ∅ 0) ∗ payToks c) ⊢ (ghost c : sProp 𝕄) := by
  unfold payToks ghost sendR
  rw [bigSep_option, over_own, bigSep_sep', bigSep_sep']
  iintro ⟨⟨HB, HO, HS, HR⟩, TB, TO, TS, TR⟩
  isplitl [HB]; · iexact HB
  isplitl [HO]; · iexact HO
  isplitl [TO]; · iexact TO
  isplitl [TB]; · iexact TB
  isplitl [TS TR HS]
  · isplitl [TS]; · iexact TS
    isplitl [TR]; · iexact TR
    iexact HS
  iexact HR

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (show (bigSep Finset.univ fun c : Dev nD => (toks c : sProp 𝕄)) ⊢ bigSep Finset.univ fun c : Dev nD => payToks c from
    (bigSep_mono fun c _ => toks_used (F := F) c).trans (Entails.of_eq (toks_dealt (F := F)))) $$ Htok
  iapply (with_records (R := records m ρ K) (Φ := fun c => ghost c) (Ψ := G' m ρ) fun c _ => by
    unfold G'; iintro H; iexists K; iexact H)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => ghost_intro c))
    isplitl [Hat]; · iexact Hat
    iexact Htk

omit [FloatOps F] in
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_eq_iff {a b : Dev nD} : barC a = barC b ↔ a = b :=
  ⟨fun h => congrArg (fun g : GSem nD τ sig => g.1.1) h, fun h => h ▸ rfl⟩
theorem recv_eq_iff {a b : Dev nD} {k k' : Tr} : rC a k = rC b k' ↔ a = b ∧ k = k' := by
  refine ⟨fun h => ?_, fun h => by rw [h.1, h.2]⟩
  have := kcell_injective (a₁ := (a, some (some (true, k)))) (a₂ := (b, some (some (true, k')))) h
  simpa using this
theorem bar_ne_recv (a b : Dev nD) (k : Tr) : barC a ≠ rC b k := fun h => by
  have := congrArg Prod.snd h; cases this

/-- The transfers owe the receive cell of each, at its target, that transfer's credit; -/
theorem Ow_recv (d c : Dev nD) (k : Tr) (l : List Tr) (hl : l.Nodup) :
    Ow d l (rC c k) () = if k ∈ l ∧ d = nb k.1 c then crd (len k.1 k.2) else 0 := by
  induction l with
  | nil => simp [Ow]
  | cons k' l ih =>
    unfold Ow
    rw [Pi.add_apply, Finsupp.add_apply, tallyAt_apply, ih hl.of_cons]
    have hd : c = nb k'.1 d ↔ d = nb k'.1 c := ⟨fun h => by rw [h, nb_nb], fun h => by rw [h, nb_nb]⟩
    by_cases hk : k = k'
    · subst hk
      have := (List.nodup_cons.mp hl).1
      simp [this, hd]
    · rw [if_neg fun h : rC c k = rC (nb k'.1 d) k' ∧ () = () => hk (recv_eq_iff.mp h.1).2, Nat.add_zero]
      simp [hk]

/-- the barrier cells nothing. -/
theorem Ow_bar (d c : Dev nD) (l : List Tr) : Ow d l (barC c) () = 0 := by
  refine Nat.eq_zero_of_not_pos fun h => ?_
  obtain ⟨k, -, e⟩ := Ow_pos h
  exact bar_ne_recv _ _ _ e

theorem owed_bar (d c : Dev nD) : O₀ d (barC c) () = ∑ a : Fin 3, if d = nb a c then 1 else 0 := by
  have hd (a : Fin 3) : barC c = barC (nb a d) ↔ d = nb a c :=
    bar_eq_iff.trans ⟨fun h => by rw [h, nb_nb], fun h => by rw [h, nb_nb]⟩
  unfold O₀ O₁ O₂
  rw [Fin.sum_univ_three]
  simp only [Pi.add_apply, Finsupp.add_apply, tallyAt_apply, and_true, Ow_bar, ← hd]
  show 0 + _ + _ + _ = _
  rw [Nat.zero_add, Nat.add_comm, Nat.add_comm (ite (barC c = barC (nz d)) 1 0), ← Nat.add_assoc]
  rfl

theorem owed_recv (d c : Dev nD) (k : Tr) : O₀ d (rC c k) () = if d = nb k.1 c then crd (len k.1 k.2) else 0 := by
  have hk : k ∈ sends := List.mem_toFinset.mp (sends_univ ▸ Finset.mem_univ k)
  unfold O₀ O₁ O₂
  simp only [Pi.add_apply, Finsupp.add_apply, tallyAt_apply, fun a b => (bar_ne_recv a b k).symm, false_and, if_false, Nat.add_zero,
    Ow_recv d c k sends sends_nodup, hk, true_and]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun a _ => Finset.sum_ite_eq' Finset.univ (nb a c) fun _ => 1]
  simp

theorem launch_recv (c : Dev nD) (k : Tr) :
    tallyOn (rC c k) (launchCredit (Pipeline.owing O₀) 0 (rC c k)) = (tallyAt (rC c k) () (crd (len k.1 k.2)) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (nb k.1 c) fun _ => crd (len k.1 k.2), if_pos (Finset.mem_univ _)]

/-- The semaphore of a transfer's receive cell. -/
def recvSem : Tr ↪ SemLoc sig := ⟨fun k => .dma (rIx k), fun k k' h => by
  have := osem_injective (a₁ := some (true, k)) (a₂ := some (true, k')) h
  simpa using this⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvSem) fun s hs => ?_).trans ?_
  · obtain ⟨k, -, rfl⟩ := Finset.mem_map.mp hs
    exact Finset.mem_erase.mpr ⟨(fun h => by cases h), Finset.mem_univ _⟩
  · rw [bigSep_map]
    exact bigSep_mono fun k _ => Entails.of_eq (congrArg cred (launch_recv c k))

/-! ## The run -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem start_body (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem end_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = closed c from rfl, scopedRest0_eq, unscopedSems0_eq]
  unfold closed Pipeline.ownSems0
  iintro ⟨HB, HZ⟩
  isplitl [HB]; · iexact HB
  isplitl [HZ]; · iexact HZ
  iempintro

theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every weakly fair execution on the eight devices ends, with
    each window's array as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := start_body m ρ) (hout := end_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is unchanged. -/
theorem finalA_x (c : Dev nD) : finalA m ρ c (0 : Fin 2) = m ((c : Thread nD τ).loc main_arg0) :=
  (dats (F := F) m ρ 0 c).arrAt_in (0 : Fin 2) rfl _

end Cert.GatherProof

end
-- ==== Proof.Value.lean ====
/-
What the gathered arrays hold after the run: on every device, the whole array of which each device was given a block.
-/
module

public import proofs.«01_k».proof.Proof.Launch
public import proofs.«01_k».proof.Proof.Gen.KernelIdeal.Points
public import Idealize.ShloMosaic.Lib.Layout

@[expose] public section

noncomputable section

namespace Cert.GatherProof

open Cert.KernelIdeal Cert.KernelIdeal.Gen
open Idealize.ShloMosaic
open Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- A device's block, as the body sees it, is its argument. -/
theorem xs_eq (c : Dev nD) : xs m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The result array ends as the body left the gathered array. -/
theorem finalA_out (c : Dev nD) : finalA m ρ c (1 : Fin 2) = fin m ρ c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = fin m ρ c := by
    refine (congrArg _ (((dats m ρ 0 c).arrAt_succ (1 : Fin 2) t0_0).trans (if_pos (flush0_1 t0_0)))).trans ?_
    exact View.read_write_univ _ _
  rw [hr] at ho
  exact ho

/-- The whole array, of which each device was given the block that its `y` coordinate names. -/
def Blocks (v : OBuf F) : Prop :=
  ∀ c : Dev nD, m ((c : Thread nD τ).loc main_arg0) = Layout.blockN ⟨2, ![1024, 512]⟩ ⟨2, ![2048, 512]⟩ (Layout.meshBlock [2, 2, 2] ![[1], []] c) v

theorem meshBlock_row : ∀ c : Dev nD, (Layout.meshBlock [2, 2, 2] ![[1], []] c (by decide) (0 : Fin 2)).val = c.val / 2 % 2 := by decide

/-- Every device gathers the whole array. -/
theorem fin_eq (v : OBuf F) (h : Blocks m v) (c : Dev nD) : fin m ρ c = v := by
  funext i
  show xs m ρ (srcD c (i (0 : Fin 2)).val) (red i) = v i
  rw [xs_eq, h, Layout.blockN_apply]
  refine congrArg v (funext fun a => Fin.ext ?_)
  rw [Layout.TilesN.idx_val]
  have h0 : (i (0 : Fin 2)).val < 2048 := (i (0 : Fin 2)).isLt
  fin_cases a
  · show (Layout.meshBlock [2, 2, 2] ![[1], []] (srcD c (i (0 : Fin 2)).val) (by decide) (0 : Fin 2)).val * 1024 + (i (0 : Fin 2)).val % 1024 = (i (0 : Fin 2)).val
    rw [meshBlock_row, srcD_y c _ h0]
    omega
  · show (0 : ℕ) * 512 + (i (1 : Fin 2)).val = (i (1 : Fin 2)).val
    omega

/-- The run, read at the arguments: they and the counters are as at the start. -/
theorem run_args : θ_run defs (onTc (τ := τ) (main (F := F))) ⟨m, fun _ => 0, ρ⟩ fun r =>
    (∀ c : Dev nD, r.2.mem ((c.tc : Thread nD τ).loc main_arg0) = m ((c.tc : Thread nD τ).loc main_arg0)) ∧ r.2.sem = fun _ => 0 :=
  (θ_run defs _ _).mono (fun _ h => ⟨fun c => (h.1 c (0 : Fin 2)).trans (finalA_x m ρ c), h.2⟩) (run_main m ρ)

/-- The run, read at results and arguments: every device's result is the whole array. -/
theorem run_value (v : OBuf F) (h : Blocks m v) : θ_run defs (onTc (τ := τ) (main (F := F))) ⟨m, fun _ => 0, ρ⟩ fun r =>
    ∀ c : Dev nD, r.2.mem ((c.tc : Thread nD τ).loc main_v1) = v
      ∧ r.2.mem ((c.tc : Thread nD τ).loc main_arg0) = m ((c.tc : Thread nD τ).loc main_arg0) :=
  (θ_run defs _ _).mono (fun _ hr c => ⟨((hr.1 c (1 : Fin 2)).trans (finalA_out m ρ c)).trans (fin_eq m ρ v h c),
    (hr.1 c (0 : Fin 2)).trans (finalA_x m ρ c)⟩) (run_main m ρ)

end Cert.GatherProof

end
-- ==== Proof.Reference.lean ====
/-
The reference's run: its program returns its argument and does nothing else.
-/
module

public import proofs.«01_k».proof.Proof.Gen.ReferenceIdeal
public import Idealize.ShloMosaic.Lib.StableHlo.Run

@[expose] public section

noncomputable section

namespace Cert.ReferenceProof

open Cert.ReferenceIdeal Cert.ReferenceIdeal.Gen
open Idealize.ShloMosaic Idealize.ShloMosaic.StableHlo
open Idealize.SL.Sem

variable {F : FTy → Type} [FloatOps F]

theorem no_sem (s : GSem nD τ sig) : False := by
  rcases s with ⟨_, q | q⟩
  · exact q.elim0
  · exact q.elim0

/-- The reference ends, its argument as it was; it has no semaphore. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun _ h => ⟨fun c => h c main_arg0, funext fun s => (no_sem s).elim⟩)
    (run_seq (by decide) (by decide) defs main (fun _ => []) (fun _ => rfl) (fun _ => trivial) m ρ)

end Cert.ReferenceProof

end
-- ==== Proof.lean ====
/-
The five claims: the kernel and its ideal program run, leave their arguments and every semaphore counter as they were; so
does the reference; and every device's result is the reference's whole array. The kernel's run is proved once, for any
float values.
-/
module

public import proofs.«01_k».proof.Defs
public import proofs.«01_k».proof.Proof.Gen.Kernel
public import proofs.«01_k».proof.Proof.Value
public import proofs.«01_k».proof.Proof.Reference

@[expose] public section

noncomputable section

namespace Cert.Proof

open Idealize.ShloMosaic Idealize.SL.Sem

attribute [local instance] Cert.Kernel.Gen.facts Cert.KernelIdeal.Gen.facts

/-- The two programs have one text: their bodies are the same, -/
theorem bodies_eq : Cert.Kernel.defs₀ (F := Bits) = Cert.KernelIdeal.defs₀ :=
  congrArg Defs.onTc (funext fun l => funext fun a => by
    match l, a with
    | 0, (t, s) => rfl
    | ⟨_ + 1, h⟩, _ => exact absurd h (Nat.not_lt.2 (Nat.le_add_left _ _)))

/-- and so are all their definitions. -/
theorem defs_eq : Cert.Kernel.defs (F := Bits) = Cert.KernelIdeal.defs :=
  congrArg (Pipeline.defs Cert.KernelIdeal.pcfgs) bodies_eq

theorem frame_kernel : Cert.quiescent_Kernel (hKernel := Cert.Kernel.Gen.facts) := fun m g _ => by
  rw [defs_eq]
  exact GatherProof.run_args (F := Bits) m g

theorem frame_ideal : Cert.quiescent_KernelIdeal (hKernelIdeal := Cert.KernelIdeal.Gen.facts) :=
  fun m g _ => GatherProof.run_args (F := Ideal) m g

theorem frame_reference : Cert.quiescent_ReferenceIdeal (hReferenceIdeal := Cert.ReferenceIdeal.Gen.facts) :=
  fun m g _ => ReferenceProof.run (F := Ideal) m g

/-- Every device ends with the whole array that the reference returns. -/
theorem gathers : Cert.algebraic_KernelIdeal_ReferenceIdeal (hKernelIdeal := Cert.KernelIdeal.Gen.facts)
    (hReferenceIdeal := Cert.ReferenceIdeal.Gen.facts) :=
  fun m g m' g' _ h => ⟨m' _, GatherProof.run_value (F := Ideal) m g _ h,
    (θ_run Cert.ReferenceIdeal.defs _ _).mono (fun _ hr => ⟨hr.1 0, hr.1 0⟩) (ReferenceProof.run (F := Ideal) m' g')⟩

theorem claim : Cert.Claim := ⟨Cert.Kernel.Gen.facts, Cert.KernelIdeal.Gen.facts, Cert.ReferenceIdeal.Gen.facts,
  frame_kernel, frame_ideal, frame_reference, trivial, gathers⟩

end Cert.Proof

end
